-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S4096x16384 : Shape := ⟨2, ![4096, 16384]⟩
abbrev S8192x4096 : Shape := ⟨2, ![8192, 4096]⟩
abbrev S4096 : Shape := ⟨1, ![4096]⟩
abbrev S8192x8192 : Shape := ⟨2, ![8192, 8192]⟩
abbrev S8192x128 : Shape := ⟨2, ![8192, 128]⟩
abbrev S2048x4096 : Shape := ⟨2, ![2048, 4096]⟩
abbrev S4096x256 : Shape := ⟨2, ![4096, 256]⟩
abbrev S2048x256 : Shape := ⟨2, ![2048, 256]⟩
abbrev S2048x128 : Shape := ⟨2, ![2048, 128]⟩
abbrev S1x4096 : Shape := ⟨2, ![1, 4096]⟩
abbrev S8192x1 : Shape := ⟨2, ![8192, 1]⟩
abbrev S512x8192 : Shape := ⟨2, ![512, 8192]⟩
abbrev S512x128 : Shape := ⟨2, ![512, 128]⟩
abbrev S8192x512 : Shape := ⟨2, ![8192, 512]⟩
abbrev S1x512 : Shape := ⟨2, ![1, 512]⟩
abbrev S512x512 : Shape := ⟨2, ![512, 512]⟩
abbrev S512x1 : Shape := ⟨2, ![512, 1]⟩
abbrev S512 : Shape := ⟨1, ![512]⟩
abbrev S512x1024 : Shape := ⟨2, ![512, 1024]⟩
abbrev S4x2048x8192 : Shape := ⟨3, ![4, 2048, 8192]⟩
abbrev S4x2048x1 : Shape := ⟨3, ![4, 2048, 1]⟩

abbrev nBuf : Space → Nat
  | .hbm => 15
  | .vmem => 24
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S8192x4096, .fp8e4m3⟩
  | .hbm, ⟨3, _⟩ => ⟨S4096, .f32⟩
  | .hbm, ⟨4, _⟩ => ⟨S8192x4096, .f32⟩
  | .hbm, ⟨5, _⟩ => ⟨S8192x4096, .bf16⟩
  | .hbm, ⟨6, _⟩ => ⟨S8192x8192, .f32⟩
  | .hbm, ⟨7, _⟩ => ⟨S8192x128, .f32⟩
  | .hbm, ⟨8, _⟩ => ⟨S1x4096, .f32⟩
  | .hbm, ⟨9, _⟩ => ⟨S8192x4096, .f32⟩
  | .hbm, ⟨10, _⟩ => ⟨S8192x8192, .fp8e4m3⟩
  | .hbm, ⟨11, _⟩ => ⟨S8192x1, .f32⟩
  | .hbm, ⟨12, _⟩ => ⟨S4x2048x4096, .f32⟩
  | .hbm, ⟨13, _⟩ => ⟨S4x2048x8192, .fp8e4m3⟩
  | .hbm, ⟨14, _⟩ => ⟨S4x2048x1, .f32⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | .local _ .vmem, ⟨9, _⟩ => ⟨S2048x128, .f32⟩
  | .local _ .vmem, ⟨10, _⟩ => ⟨S512x8192, .f32⟩
  | .local _ .vmem, ⟨11, _⟩ => ⟨S512x8192, .f32⟩
  | .local _ .vmem, ⟨12, _⟩ => ⟨S512x128, .f32⟩
  | .local _ .vmem, ⟨13, _⟩ => ⟨S512x128, .f32⟩
  | .local _ .vmem, ⟨14, _⟩ => ⟨S8192x512, .fp8e4m3⟩
  | .local _ .vmem, ⟨15, _⟩ => ⟨S8192x512, .fp8e4m3⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x8192, .fp8e4m3⟩
  | .local _ .vmem, ⟨21, _⟩ => ⟨S512x8192, .fp8e4m3⟩
  | .local _ .vmem, ⟨22, _⟩ => ⟨S512x1, .f32⟩
  | .local _ .vmem, ⟨23, _⟩ => ⟨S512x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg1 : BitVec 32 := BitVec.ofNat 32 (i 1).val
  let c0_i32_9 : BitVec 32 := 0#32
  let v19 : BitVec 1 := Scalar.cmpi .ne arg1 c0_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x8192 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S4x2048x4096 : Shape := ⟨3, ![4, 2048, 4096]⟩
abbrev S4096x16384 : Shape := ⟨2, ![4096, 16384]⟩
abbrev S8192x4096 : Shape := ⟨2, ![8192, 4096]⟩
abbrev S4096 : Shape := ⟨1, ![4096]⟩
abbrev S4x2048x8192 : Shape := ⟨3, ![4, 2048, 8192]⟩
abbrev S4x2048x1 : Shape := ⟨3, ![4, 2048, 1]⟩
abbrev S8192x16384 : Shape := ⟨2, ![8192, 16384]⟩
abbrev S8192x8192 : Shape := ⟨2, ![8192, 8192]⟩
abbrev S8192 : Shape := ⟨1, ![8192]⟩
abbrev S8192x1 : Shape := ⟨2, ![8192, 1]⟩
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S8192x4096, .fp8e4m3⟩
  | .hbm, ⟨3, _⟩ => ⟨S4096, .f32⟩
  | .hbm, ⟨4, _⟩ => ⟨S4x2048x4096, .f32⟩
  | .hbm, ⟨5, _⟩ => ⟨S4x2048x8192, .fp8e4m3⟩
  | .hbm, ⟨6, _⟩ => ⟨S4x2048x1, .f32⟩
  | .local _ .vmem, ⟨0, _⟩ => ⟨S4x2048x4096, .f32⟩
  | .local _ .vmem, ⟨1, _⟩ => ⟨S4096x16384, .f32⟩
  | .local _ .vmem, ⟨2, _⟩ => ⟨S8192x4096, .fp8e4m3⟩
  | .local _ .vmem, ⟨3, _⟩ => ⟨S4096, .f32⟩
  | .local _ .vmem, ⟨4, _⟩ => ⟨S4x2048x4096, .f32⟩
  | .local _ .vmem, ⟨5, _⟩ => ⟨S4x2048x8192, .fp8e4m3⟩
  | .local _ .vmem, ⟨6, _⟩ => ⟨S4x2048x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Ideal.Gate.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call: `h = silu(x·wg)·(x·wu)` and the running row maximum

The grid is 4 × 32; point `t` is row block `t / 32`, column block `t % 32`. The row block's running maximum (window 4,
128 lanes wide) is started at `t % 32 = 0` and updated at the other points. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and conditions -/

abbrev r0_0 : Rect S2048x4096 := Rect.unit (s := S2048x4096) ![0, 0] S2048x4096.size inb_S2048x4096_S2048x4096_0_0
abbrev r0_1 : Rect S4096x256 := Rect.unit (s := S4096x256) ![0, 0] S4096x256.size inb_S4096x256_S4096x256_0_0
abbrev r0_2 : Rect S2048x256 := Rect.unit (s := S2048x256) ![0, 0] S2048x256.size inb_S2048x256_S2048x256_0_0
abbrev r0_3 : Rect S2048x128 := Rect.unit (s := S2048x128) ![0, 0] S2048x128.size inb_S2048x128_S2048x128_0_0

theorem zero2 : (![0, 0] : Fin 2 → ℕ) = fun _ => 0 := by funext d; fin_cases d <;> rfl

/-- A load of a whole buffer reads it. -/
theorem readAt_whole {κ sp} {S : Shape} {e : EltTy} (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

/-- The first conditional: the column block is the first. -/
abbrev cond0_0 (i : grid0.Coords) : Prop := k0_cond1 i = 1#1
theorem hcond0_0 : ∀ t : Fin cfg0.N, cond0_0 (grid0.coords t) ↔ t.val % 32 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- The second conditional: the column block is not the first. -/
abbrev cond0_1 (i : grid0.Coords) : Prop := k0_cond2 i = 1#1
theorem hcond0_1 : ∀ t : Fin cfg0.N, cond0_1 (grid0.coords t) ↔ 1 ≤ t.val % 32 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ 1 ≤ t.val % 32)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := by decide +kernel

/-- Window 4's buffer is fresh at the start and after each row block's last point. -/
def freshTab0_4 : ℕ → Bool
  | 0 => true
  | n + 1 => (0x80000000800000008000000080000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
theorem notFresh0_4 : ∀ t : Fin cfg0.N, ¬ t.val % 32 = 0 → cfg0.fresh 4 t.val = false := by
  intro t; rw [fresh0_4_eq t]; revert t; decide +kernel

/-! ## The body's triples, by case -/

theorem cover0_3 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y
theorem cover0_4 (p0 : Vec F S2048x128 .f32) (y : S2048x128.Idx) :
    ∃ pc ∈ ([⟨r0_3, p0⟩] : List (View.Piece (Elt F) S2048x128 .f32)), y ∈ pc.1.set :=
  View.cover_of_tiled [⟨r0_3, p0⟩] S2048x128.size (by rfl) y

set_option maxHeartbeats 1000000 in
/-- At the first column block: both outputs are stored from the inputs' blocks. -/
theorem sound_kernel0_A (c : Dev nD) (E : Set ℕ) (i : grid0.Coords) (arg2 : Memref sig .tc .vmem S2048x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2048x256 .f32) (harg5 : arg5.IsWhole) (arg6 : Memref sig .tc .vmem S2048x128 .f32) (harg6 : arg6.IsWhole)
    (hc0 : cond0_0 i) (hc1 : ¬cond0_1 i)
    (x0 : Vec F S2048x4096 .bf16) (x1 : Vec F S4096x256 .f32) (x2 : Vec F S4096x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1 x2) ∗ owns (c : Thread nD τ) arg6 fullShare (k0_pay2 x0 x1 x2)) -∗ K ⟨⟩))
      ⊢ wp frame (wpE (defs₀ (F := F)) Variants.none c none) E (cc0_gate_up i arg2 harg2 arg3 harg3 arg4 harg4 arg5 harg5 arg6 harg6) K := by
  simp only [cc0_gate_up_eq_skeleton]; unfold cc0_gate_up_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rw [View.canon_unit_zero (S := S2048x256) zero2, readAt_whole (S := S2048x4096) _ zero2, readAt_whole (S := S4096x256) arg3.view zero2, readAt_whole (S := S4096x256) arg4.view zero2]
  iexists _; isplitr
  swap; · iexact H4
  ipureintro
  refine (View.read_writes_eq_canon _ _ _ (cover0_4 _)).trans ?_
  rw [View.canon_unit_zero (S := S2048x128) zero2, readAt_whole (S := S2048x4096) _ zero2, readAt_whole (S := S4096x256) arg3.view zero2, readAt_whole (S := S4096x256) arg4.view zero2]

set_option maxHeartbeats 1000000 in
/-- At a later column block: the running maximum is updated from what the buffer held. -/
theorem sound_kernel0_B (c : Dev nD) (E : Set ℕ) (i : grid0.Coords) (arg2 : Memref sig .tc .vmem S2048x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2048x256 .f32) (harg5 : arg5.IsWhole) (arg6 : Memref sig .tc .vmem S2048x128 .f32) (harg6 : arg6.IsWhole)
    (hc0 : ¬cond0_0 i) (hc1 : cond0_1 i)
    (x0 : Vec F S2048x4096 .bf16) (x1 : Vec F S4096x256 .f32) (x2 : Vec F S4096x256 .f32) (xo4 : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1 x2) ∗ owns (c : Thread nD τ) arg6 fullShare (k0_pay3 x0 x1 x2 xo4)) -∗ K ⟨⟩))
      ⊢ wp frame (wpE (defs₀ (F := F)) Variants.none c none) E (cc0_gate_up i arg2 harg2 arg3 harg3 arg4 harg4 arg5 harg5 arg6 harg6) K := by
  simp only [cc0_gate_up_eq_skeleton]; unfold cc0_gate_up_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rw [View.canon_unit_zero (S := S2048x256) zero2, readAt_whole (S := S2048x4096) _ zero2, readAt_whole (S := S4096x256) arg3.view zero2, readAt_whole (S := S4096x256) arg4.view zero2]
  iexists _; isplitr
  swap; · iexact H4
  ipureintro
  refine (View.read_writes_eq_canon _ _ _ (cover0_4 _)).trans ?_
  rw [View.canon_unit_zero (S := S2048x128) zero2, readAt_whole (S := S2048x4096) _ zero2, readAt_whole (S := S4096x256) arg3.view zero2, readAt_whole (S := S4096x256) arg4.view zero2, readAt_whole (S := S2048x128) _ zero2]

/-! ## The pipeline's proof data -/

/-- What the running-maximum buffer holds after point `n`. -/
def amaxAt (c : Dev nD) : (n : ℕ) → n < cfg0.N → Vec F S2048x128 .f32
  | 0, h => k0_pay2 (iblk0 V c 0 ⟨0, h⟩) (iblk0 V c 1 ⟨0, h⟩) (iblk0 V c 2 ⟨0, h⟩)
  | n + 1, h =>
    if (n + 1) % 32 = 0 then k0_pay2 (iblk0 V c 0 ⟨n + 1, h⟩) (iblk0 V c 1 ⟨n + 1, h⟩) (iblk0 V c 2 ⟨n + 1, h⟩)
    else k0_pay3 (iblk0 V c 0 ⟨n + 1, h⟩) (iblk0 V c 1 ⟨n + 1, h⟩) (iblk0 V c 2 ⟨n + 1, h⟩) (amaxAt c n (Nat.lt_of_succ_lt h))

theorem amaxAt_A (c : Dev nD) (t : Fin cfg0.N) (h0 : t.val % 32 = 0) :
    amaxAt V c t.val t.isLt = k0_pay2 (iblk0 V c 0 t) (iblk0 V c 1 t) (iblk0 V c 2 t) := by
  obtain ⟨n, hn⟩ := t
  cases n with
  | zero => rfl
  | succ n => exact if_pos h0

theorem amaxAt_B (c : Dev nD) (t : Fin cfg0.N) (h0 : ¬ t.val % 32 = 0) :
    amaxAt V c t.val t.isLt = k0_pay3 (iblk0 V c 0 t) (iblk0 V c 1 t) (iblk0 V c 2 t)
      (amaxAt V c (t.val - 1) (Nat.lt_of_le_of_lt (Nat.sub_le _ _) t.isLt)) := by
  obtain ⟨n, hn⟩ := t
  cases n with
  | zero => exact absurd (Nat.zero_mod _) h0
  | succ n => exact if_neg h0

/-- The pipeline's proof data: each input's buffer at its block, the outputs' as above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
    | ⟨4, _⟩ => amaxAt V c t.val t.isLt
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (iblk0 V c 0 t) (iblk0 V c 1 t) (iblk0 V c 2 t) := by dsimp only [dat0]
theorem after0_4 (c : Dev nD) (t : Fin cfg0.N) : (dat0 V c).after 4 t = amaxAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  rw [liveAt0_4 t] at hi
  exact absurd hi Bool.false_ne_true
/-- At a later column block window 4's buffer holds what the point before left. -/
theorem before0_4_B (c : Dev nD) (t : Fin cfg0.N) (h0 : ¬t.val % 32 = 0) (d) :
    (dat0 V c).before 4 t d = amaxAt V c (t.val - 1) (Nat.lt_of_le_of_lt (Nat.sub_le _ _) t.isLt) := by
  rw [Dat.before_out_traj _ 4 rfl (fun _ _ => rfl) (hcarry0_4 V c) t.val t rfl d,
    if_neg (by rw [notFresh0_4 t h0]; exact Bool.false_ne_true)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body at any point, by the two cases. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  by_cases h0 : t.val % 32 = 0
  · rw [amaxAt_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0_0 t).mpr h0) (fun h => absurd ((hcond0_1 t).mp h) (by omega)) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [amaxAt_B V c t h0]
    simp only [before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond0_0 t).mp h)) ((hcond0_1 t).mpr (by omega)) (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.Ideal.Down.lean ====
module

public import proofs.«01_k».proof.Proof.Ideal.Gate

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: the quantised rows and their product with `w_down`

The grid is 16 × 8; point `t` is row block `t / 8`, column block `t % 8`. The row block's codes and scales (windows 5
and 6) are computed at `t % 8 = 0` and read at every point. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and conditions -/

abbrev q0 : Rect S512x8192 := Rect.unit (s := S512x8192) ![0, 0] S512x1024.size inb_S512x8192_S512x1024_0_0
abbrev q1 : Rect S512x8192 := Rect.unit (s := S512x8192) ![0, 1024] S512x1024.size inb_S512x8192_S512x1024_0_1024
abbrev q2 : Rect S512x8192 := Rect.unit (s := S512x8192) ![0, 2048] S512x1024.size inb_S512x8192_S512x1024_0_2048
abbrev q3 : Rect S512x8192 := Rect.unit (s := S512x8192) ![0, 3072] S512x1024.size inb_S512x8192_S512x1024_0_3072
abbrev q4 : Rect S512x8192 := Rect.unit (s := S512x8192) ![0, 4096] S512x1024.size inb_S512x8192_S512x1024_0_4096
abbrev q5 : Rect S512x8192 := Rect.unit (s := S512x8192) ![0, 5120] S512x1024.size inb_S512x8192_S512x1024_0_5120
abbrev q6 : Rect S512x8192 := Rect.unit (s := S512x8192) ![0, 6144] S512x1024.size inb_S512x8192_S512x1024_0_6144
abbrev q7 : Rect S512x8192 := Rect.unit (s := S512x8192) ![0, 7168] S512x1024.size inb_S512x8192_S512x1024_0_7168

/-- The conditional: the column block is the first. -/
abbrev cond1_0 (i : grid1.Coords) : Prop := k1_cond1 i = 1#1
theorem hcond1_0 : ∀ t : Fin cfg1.N, cond1_0 (grid1.coords t) ↔ t.val % 8 = 0 :=
  (fun t => by
    have ht : t.val < 128 := Nat.lt_of_lt_of_eq t.isLt N_1
    have e0 : (grid1.coords t 0).val = t.val / 8 % 16 := Pipeline.Grid.coords_val t 0 (by decide) rfl
    have e1 : (grid1.coords t 1).val = t.val / 1 % 8 := Pipeline.Grid.coords_val t 1 (by decide) rfl
    simp only [cond1_0, k1_cond1, e0, e1]
    word_cmp
   : ∀ t : Fin grid1.N, cond1_0 (grid1.coords t) ↔ t.val % 8 = 0)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, t.val % 8 = 0 → cfg1.idle 5 (grid1.coords t) = false := by decide +kernel
theorem liveAt1_6 : ∀ t : Fin cfg1.N, t.val % 8 = 0 → cfg1.idle 6 (grid1.coords t) = false := by decide +kernel
theorem idleAt1_5 : ∀ t : Fin cfg1.N, ¬ t.val % 8 = 0 → cfg1.idle 5 (grid1.coords t) = true := by decide +kernel
theorem idleAt1_6 : ∀ t : Fin cfg1.N, ¬ t.val % 8 = 0 → cfg1.idle 6 (grid1.coords t) = true := by decide +kernel

/-- The codes' and scales' buffers are fresh at the start and after each row block's last point. -/
def freshTab1 : ℕ → Bool
  | 0 => true
  | n + 1 => (0x80808080808080808080808080808080 : ℕ).testBit n
theorem freshTab1_step5 : ∀ t : Fin cfg1.N,
    freshTab1 (t.val + 1) = ((cfg1.win 5).flush t || (cfg1.idle 5 (cfg1.grid.coords t) && freshTab1 t.val)) := by decide +kernel
theorem freshTab1_step6 : ∀ t : Fin cfg1.N,
    freshTab1 (t.val + 1) = ((cfg1.win 6).flush t || (cfg1.idle 6 (cfg1.grid.coords t) && freshTab1 t.val)) := by decide +kernel
theorem fresh1_5_eq (t : Fin cfg1.N) : cfg1.fresh 5 t.val = freshTab1 t.val :=
  Pipeline.Cfg.fresh_tab cfg1 5 freshTab1 rfl freshTab1_step5 t.val (Nat.le_of_lt t.isLt)
theorem fresh1_6_eq (t : Fin cfg1.N) : cfg1.fresh 6 t.val = freshTab1 t.val :=
  Pipeline.Cfg.fresh_tab cfg1 6 freshTab1 rfl freshTab1_step6 t.val (Nat.le_of_lt t.isLt)
theorem notFresh1_5 : ∀ t : Fin cfg1.N, ¬ t.val % 8 = 0 → cfg1.fresh 5 t.val = false := by
  intro t; rw [fresh1_5_eq t]; revert t; decide +kernel
theorem notFresh1_6 : ∀ t : Fin cfg1.N, ¬ t.val % 8 = 0 → cfg1.fresh 6 t.val = false := by
  intro t; rw [fresh1_6_eq t]; revert t; decide +kernel

/-! ## What the body computes -/

/-- The scales of a row block, from the row maxima's lanes. -/
abbrev scaleOf (x1 : Vec F S512x128 .f32) : FVec F S512x1 .f32 :=
  k1_pay12 (k1_pay4 x1) (k1_pay5 x1) (k1_pay6 x1) (k1_pay7 x1) (k1_pay8 x1) (k1_pay9 x1)

/-- The exponents of the reciprocal scales, as floats. -/
abbrev negOf (x1 : Vec F S512x128 .f32) : FVec F S512x1 .f32 :=
  k1_pay13 (k1_pay4 x1) (k1_pay5 x1) (k1_pay6 x1) (k1_pay7 x1) (k1_pay8 x1) (k1_pay9 x1)

/-- The floats whose exponent bits are those exponents. -/
abbrev negBitsOf (x1 : Vec F S512x128 .f32) : FVec F S512x1 .f32 :=
  k1_pay14 (k1_pay4 x1) (k1_pay5 x1) (k1_pay6 x1) (k1_pay7 x1) (k1_pay8 x1) (k1_pay9 x1)

/-- The reciprocal scales of a row block, from the row maxima's lanes. -/
abbrev invOf (x1 : Vec F S512x128 .f32) : FVec F S512x1 .f32 := k1_pay15 (k1_pay11 (F := F)) (negOf x1) (negBitsOf x1)

/-- The codes of a row block: eight column chunks, each quantised with the block's reciprocal scales. -/
def codesOf (x0 : Vec F S512x8192 .f32) (x1 : Vec F S512x128 .f32) : Vec F S512x8192 .fp8e4m3 :=
  View.canon [⟨q7, k1_pay2 (invOf x1) (View.ld x0 q7)⟩,
    ⟨q6, k1_pay1 (k1_pay22 (invOf x1) (View.ld x0 q6)) (Scalar.ofBits .f32 0xC3E00000#32) (Scalar.ofBits .f32 0x43E00000#32)⟩,
    ⟨q5, k1_pay21 (invOf x1) (View.ld x0 q5)⟩,
    ⟨q4, k1_pay20 (invOf x1) (View.ld x0 q4)⟩,
    ⟨q3, k1_pay19 (invOf x1) (View.ld x0 q3)⟩,
    ⟨q2, k1_pay18 (k1_pay11 (F := F)) (negOf x1) (negBitsOf x1) (View.ld x0 q2)⟩,
    ⟨q1, k1_pay17 (k1_pay11 (F := F)) (negOf x1) (negBitsOf x1) (View.ld x0 q1)⟩,
    ⟨q0, k1_pay16 (k1_pay11 (F := F)) (negOf x1) (negBitsOf x1) (View.ld x0 q0)⟩]

theorem cover1_5 (p0 p1 p2 p3 p4 p5 p6 p7 : Vec F S512x1024 .fp8e4m3) (y : S512x8192.Idx) :
    ∃ pc ∈ ([⟨q7, p7⟩, ⟨q6, p6⟩, ⟨q5, p5⟩, ⟨q4, p4⟩, ⟨q3, p3⟩, ⟨q2, p2⟩, ⟨q1, p1⟩, ⟨q0, p0⟩] : List (View.Piece (Elt F) S512x8192 .fp8e4m3)), y ∈ pc.1.set :=
  View.cover_of_tiled [⟨q7, p7⟩, ⟨q6, p6⟩, ⟨q5, p5⟩, ⟨q4, p4⟩, ⟨q3, p3⟩, ⟨q2, p2⟩, ⟨q1, p1⟩, ⟨q0, p0⟩] S512x1024.size (by rfl) y
theorem cover1_4 (p0 : Vec F S512x512 .f32) (y : S512x512.Idx) :
    ∃ pc ∈ ([⟨Rect.unit (s := S512x512) ![0, 0] S512x512.size inb_S512x512_S512x512_0_0, p0⟩] : List (View.Piece (Elt F) S512x512 .f32)), y ∈ pc.1.set :=
  View.cover_of_tiled [⟨Rect.unit (s := S512x512) ![0, 0] S512x512.size inb_S512x512_S512x512_0_0, p0⟩] S512x512.size (by rfl) y
theorem cover1_6 (p0 : Vec F S512x1 .f32) (y : S512x1.Idx) :
    ∃ pc ∈ ([⟨Rect.unit (s := S512x1) ![0, 0] S512x1.size inb_S512x1_S512x1_0_0, p0⟩] : List (View.Piece (Elt F) S512x1 .f32)), y ∈ pc.1.set :=
  View.cover_of_tiled [⟨Rect.unit (s := S512x1) ![0, 0] S512x1.size inb_S512x1_S512x1_0_0, p0⟩] S512x1.size (by rfl) y

/-! ## The body's triples, by case -/

set_option maxHeartbeats 1000000 in
/-- At the first column block: codes and scales are computed from the inputs' blocks and used. -/
theorem sound_kernel1_A (c : Dev nD) (E : Set ℕ) (i : grid1.Coords) (arg2 : Memref sig .tc .vmem S512x8192 .f32) (harg2 : arg2.IsWhole) (arg3 : Memref sig .tc .vmem S512x128 .f32) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S512x512 .f32) (harg6 : arg6.IsWhole) (arg7 : Memref sig .tc .vmem S512x8192 .fp8e4m3) (harg7 : arg7.IsWhole) (arg8 : Memref sig .tc .vmem S512x1 .f32) (harg8 : arg8.IsWhole)
    (hc0 : cond1_0 i)
    (x0 : Vec F S512x8192 .f32) (x1 : Vec F S512x128 .f32) (x2 : Vec F S8192x512 .fp8e4m3) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (codesOf x0 x1) x2 (scaleOf x1) x3) ∗ owns (c : Thread nD τ) arg7 fullShare (codesOf x0 x1) ∗ owns (c : Thread nD τ) arg8 fullShare (scaleOf x1)) -∗ K ⟨⟩))
      ⊢ wp frame (wpE (defs₀ (F := F)) Variants.none c none) E (cc1_down i arg2 harg2 arg3 harg3 arg4 harg4 arg5 harg5 arg6 harg6 arg7 harg7 arg8 harg8) K := by
  simp only [cc1_down_eq_skeleton]; unfold cc1_down_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    have e3 : sound_kernel1_A.sl.v3 c arg2 arg3 arg7 f0 f1 = codesOf (arg2.view.read (Elt F) f0) (arg3.view.read (Elt F) f1) := by
      unfold sound_kernel1_A.sl.v3
      unfold sound_kernel1_A.sl.H5_8
      refine (View.readCov_eq_canon_ld _ _ _ (cover1_5 _ _ _ _ _ _ _ _)).trans ?_
      rw [View.ld_unit_zero (S := S512x8192) zero2]
      unfold sound_kernel1_A.sl.r_10 sound_kernel1_A.sl.r_9 sound_kernel1_A.sl.r_8 sound_kernel1_A.sl.r_7 sound_kernel1_A.sl.r_6 sound_kernel1_A.sl.r_5 sound_kernel1_A.sl.r_4 sound_kernel1_A.sl.r_3 sound_kernel1_A.sl.r_2 sound_kernel1_A.sl.r_1 sound_kernel1_A.sl.r sound_kernel1_A.sl.cst_74 sound_kernel1_A.sl.cst_75 codesOf invOf negOf negBitsOf
      rw [readAt_whole (S := S512x128) arg3.view zero2]
      rfl
    have e7 : sound_kernel1_A.sl.v7 c arg3 arg8 f1 = scaleOf (arg3.view.read (Elt F) f1) := by
      unfold sound_kernel1_A.sl.v7 sound_kernel1_A.sl.H6_1
      refine (View.readCov_eq_canon_ld _ _ _ (cover1_6 _)).trans ?_
      rw [View.ld_unit_zero (S := S512x1) zero2, View.canon_unit_zero (S := S512x1) zero2]
      unfold sound_kernel1_A.sl.r_5 sound_kernel1_A.sl.r_4 sound_kernel1_A.sl.r_3 sound_kernel1_A.sl.r_2 sound_kernel1_A.sl.r_1 sound_kernel1_A.sl.r
      rw [readAt_whole (S := S512x128) _ zero2]
    rw [View.canon_unit_zero (S := S512x512) zero2, readAt_whole (S := S8192x512) _ zero2, readAt_whole (S := S1x512) _ zero2, e3, e7]
  isplitl [H5]
  · iexists _; isplitr
    swap; · iexact H5
    ipureintro
    refine (View.read_writes_eq_canon _ _ _ (cover1_5 _ _ _ _ _ _ _ _)).trans ?_
    unfold sound_kernel1_A.sl.r_10 sound_kernel1_A.sl.r_9 sound_kernel1_A.sl.r_8 sound_kernel1_A.sl.r_7 sound_kernel1_A.sl.r_6 sound_kernel1_A.sl.r_5 sound_kernel1_A.sl.r_4 sound_kernel1_A.sl.r_3 sound_kernel1_A.sl.r_2 sound_kernel1_A.sl.r_1 sound_kernel1_A.sl.r sound_kernel1_A.sl.cst_74 sound_kernel1_A.sl.cst_75 codesOf invOf negOf negBitsOf
    rw [readAt_whole (S := S512x128) arg3.view zero2]
    rfl
  iexists _; isplitr
  swap; · iexact H6
  ipureintro
  refine (View.read_writes_eq_canon _ _ _ (cover1_6 _)).trans ?_
  rw [View.canon_unit_zero (S := S512x1) zero2]
  unfold sound_kernel1_A.sl.r_5 sound_kernel1_A.sl.r_4 sound_kernel1_A.sl.r_3 sound_kernel1_A.sl.r_2 sound_kernel1_A.sl.r_1 sound_kernel1_A.sl.r
  rw [readAt_whole (S := S512x128) _ zero2]

set_option maxHeartbeats 1000000 in
/-- At a later column block: the codes and scales already in their buffers are used, and left. -/
theorem sound_kernel1_B (c : Dev nD) (E : Set ℕ) (i : grid1.Coords) (arg2 : Memref sig .tc .vmem S512x8192 .f32) (harg2 : arg2.IsWhole) (arg3 : Memref sig .tc .vmem S512x128 .f32) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S512x512 .f32) (harg6 : arg6.IsWhole) (arg7 : Memref sig .tc .vmem S512x8192 .fp8e4m3) (harg7 : arg7.IsWhole) (arg8 : Memref sig .tc .vmem S512x1 .f32) (harg8 : arg8.IsWhole)
    (hc0 : ¬cond1_0 i)
    (x0 : Vec F S512x8192 .f32) (x1 : Vec F S512x128 .f32) (x2 : Vec F S8192x512 .fp8e4m3) (x3 : Vec F S1x512 .f32)
    (xo5 : Vec F S512x8192 .fp8e4m3) (xo6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 xo5 x2 xo6 x3) ∗ owns (c : Thread nD τ) arg7 fullShare xo5 ∗ owns (c : Thread nD τ) arg8 fullShare xo6) -∗ K ⟨⟩))
      ⊢ wp frame (wpE (defs₀ (F := F)) Variants.none c none) E (cc1_down i arg2 harg2 arg3 harg3 arg4 harg4 arg5 harg5 arg6 harg6 arg7 harg7 arg8 harg8) K := by
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    rw [View.canon_unit_zero (S := S512x512) zero2, readAt_whole (S := S512x8192) arg7.view zero2, readAt_whole (S := S8192x512) _ zero2, readAt_whole (S := S512x1) _ zero2, readAt_whole (S := S1x512) _ zero2]
  isplitl [H5]
  · iexists f5; isplitr; · ipureintro; rfl
    iexact H5
  iexists f6; isplitr; · ipureintro; rfl
  iexact H6

/-! ## The pipeline's proof data -/

/-- What the codes' buffer holds after point `n`. -/
def codesAt (c : Dev nD) : (n : ℕ) → n < cfg1.N → Vec F S512x8192 .fp8e4m3
  | 0, h => codesOf (iblk1 V c 0 ⟨0, h⟩) (iblk1 V c 1 ⟨0, h⟩)
  | n + 1, h =>
    if (n + 1) % 8 = 0 then codesOf (iblk1 V c 0 ⟨n + 1, h⟩) (iblk1 V c 1 ⟨n + 1, h⟩)
    else codesAt c n (Nat.lt_of_succ_lt h)
/-- What the scales' buffer holds after point `n`. -/
def scaleAt (c : Dev nD) : (n : ℕ) → n < cfg1.N → Vec F S512x1 .f32
  | 0, h => scaleOf (iblk1 V c 1 ⟨0, h⟩)
  | n + 1, h =>
    if (n + 1) % 8 = 0 then scaleOf (iblk1 V c 1 ⟨n + 1, h⟩)
    else scaleAt c n (Nat.lt_of_succ_lt h)

theorem codesAt_A (c : Dev nD) (t : Fin cfg1.N) (h0 : t.val % 8 = 0) :
    codesAt V c t.val t.isLt = codesOf (iblk1 V c 0 t) (iblk1 V c 1 t) := by
  obtain ⟨n, hn⟩ := t
  cases n with
  | zero => rfl
  | succ n => exact if_pos h0
theorem codesAt_B (c : Dev nD) (t : Fin cfg1.N) (h0 : ¬ t.val % 8 = 0) :
    codesAt V c t.val t.isLt = codesAt V c (t.val - 1) (Nat.lt_of_le_of_lt (Nat.sub_le _ _) t.isLt) := by
  obtain ⟨n, hn⟩ := t
  cases n with
  | zero => exact absurd (Nat.zero_mod _) h0
  | succ n => exact if_neg h0
theorem scaleAt_A (c : Dev nD) (t : Fin cfg1.N) (h0 : t.val % 8 = 0) :
    scaleAt V c t.val t.isLt = scaleOf (iblk1 V c 1 t) := by
  obtain ⟨n, hn⟩ := t
  cases n with
  | zero => rfl
  | succ n => exact if_pos h0
theorem scaleAt_B (c : Dev nD) (t : Fin cfg1.N) (h0 : ¬ t.val % 8 = 0) :
    scaleAt V c t.val t.isLt = scaleAt V c (t.val - 1) (Nat.lt_of_le_of_lt (Nat.sub_le _ _) t.isLt) := by
  obtain ⟨n, hn⟩ := t
  cases n with
  | zero => exact absurd (Nat.zero_mod _) h0
  | succ n => exact if_neg h0

/-- The pipeline's proof data: each input's buffer at its block, the outputs' as above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (codesAt V c t.val t.isLt) (iblk1 V c 2 t) (scaleAt V c t.val t.isLt) (iblk1 V c 3 t)
    | ⟨5, _⟩ => codesAt V c t.val t.isLt
    | ⟨6, _⟩ => scaleAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (codesAt V c t.val t.isLt) (iblk1 V c 2 t) (scaleAt V c t.val t.isLt) (iblk1 V c 3 t) := by dsimp only [dat1]
theorem after1_5 (c : Dev nD) (t : Fin cfg1.N) : (dat1 V c).after 5 t = codesAt V c t.val t.isLt := by dsimp only [dat1]
theorem after1_6 (c : Dev nD) (t : Fin cfg1.N) : (dat1 V c).after 6 t = scaleAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  rw [after1_5, after1_5]
  by_cases h0 : t.val % 8 = 0
  · rw [liveAt1_5 t h0] at hi
    exact absurd hi Bool.false_ne_true
  · exact codesAt_B V c t h0
theorem hcarry1_6 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  rw [after1_6, after1_6]
  by_cases h0 : t.val % 8 = 0
  · rw [liveAt1_6 t h0] at hi
    exact absurd hi Bool.false_ne_true
  · exact scaleAt_B V c t h0
/-- At a later column block the codes' buffer holds what the point before left, which is what this point leaves. -/
theorem before1_5_B (c : Dev nD) (t : Fin cfg1.N) (h0 : ¬t.val % 8 = 0) (d) :
    (dat1 V c).before 5 t d = codesAt V c t.val t.isLt := by
  rw [Dat.before_out_traj _ 5 rfl (fun _ _ => rfl) (hcarry1_5 V c) t.val t rfl d,
    if_neg (by rw [notFresh1_5 t h0]; exact Bool.false_ne_true), codesAt_B V c t h0]
  dsimp only [dat1]
theorem before1_6_B (c : Dev nD) (t : Fin cfg1.N) (h0 : ¬t.val % 8 = 0) (d) :
    (dat1 V c).before 6 t d = scaleAt V c t.val t.isLt := by
  rw [Dat.before_out_traj _ 6 rfl (fun _ _ => rfl) (hcarry1_6 V c) t.val t rfl d,
    if_neg (by rw [notFresh1_6 t h0]; exact Bool.false_ne_true), scaleAt_B V c t h0]
  dsimp only [dat1]
/-- There the body leaves them as found: what the obligation asks, whether or not the block is written back. -/
theorem leaves1_5_B (c : Dev nD) (t : Fin cfg1.N) (h0 : ¬t.val % 8 = 0) :
    (owns (c : Thread nD τ) (st1_5 t) fullShare (codesAt V c t.val t.isLt) : sProp 𝕄) ⊢ (dat1 V c).leavesExact 5 t := by
  unfold Dat.leavesExact; rw [idleAt1_5 t h0]
  cases hf : (cfg1.win 5).flush t
  · simp only [before1_5_B V c t h0]
    iintro H; iexists (codesAt V c t.val t.isLt); iexact H
  · rw [after1_5]
theorem leaves1_6_B (c : Dev nD) (t : Fin cfg1.N) (h0 : ¬t.val % 8 = 0) :
    (owns (c : Thread nD τ) (st1_6 t) fullShare (scaleAt V c t.val t.isLt) : sProp 𝕄) ⊢ (dat1 V c).leavesExact 6 t := by
  unfold Dat.leavesExact; rw [idleAt1_6 t h0]
  cases hf : (cfg1.win 6).flush t
  · simp only [before1_6_B V c t h0]
    iintro H; iexists (scaleAt V c t.val t.isLt); iexact H
  · rw [after1_6]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 800000 in
/-- The body at any point, by the two cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 128 := lt_of_lt_of_eq t.isLt (show cfg1.N = 128 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val % 8 = 0
  · rw [show (dat1 V c).leavesExact 5 t = owns (c : Thread nD τ) (st1_5 t) fullShare ((dat1 V c).after 5 t) from by
      unfold Dat.leavesExact; rw [liveAt1_5 t h0], after1_5]
    rw [show (dat1 V c).leavesExact 6 t = owns (c : Thread nD τ) (st1_6 t) fullShare ((dat1 V c).after 6 t) from by
      unfold Dat.leavesExact; rw [liveAt1_6 t h0], after1_6]
    rw [codesAt_A V c t h0, scaleAt_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ ((hcond1_0 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ (fun h => h0 ((hcond1_0 t).mp h)) (iblk1 V c 0 t) (iblk1 V c 1 t) (iblk1 V c 2 t) (iblk1 V c 3 t) (codesAt V c t.val t.isLt) (scaleAt V c t.val t.isLt) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves1_5_B V c t h0); iexact H5
    iapply (leaves1_6_B V c t h0); iexact H6

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.Ideal.Run.lean ====
module

public import proofs.«01_k».proof.Proof.Ideal.Down
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every fair execution terminates without fault, every semaphore ends at
    zero, and every buffer of a core ends at the contents `W5` the segments compute. -/
theorem run : θ_run defs (onTc (τ := τ) (main (F := F))) ⟨m, fun _ => 0, ρ⟩ (fun r =>
      (∀ (c : Dev nD), ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- The frame: the arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run m ρ)

end Cert.KernelIdeal.Whole

end
-- ==== Proof.Bits.Gate.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call: `h = silu(x·wg)·(x·wu)` and the running row maximum

The grid is 4 × 32; point `t` is row block `t / 32`, column block `t % 32`. The row block's running maximum (window 4,
128 lanes wide) is started at `t % 32 = 0` and updated at the other points. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and conditions -/

abbrev r0_0 : Rect S2048x4096 := Rect.unit (s := S2048x4096) ![0, 0] S2048x4096.size inb_S2048x4096_S2048x4096_0_0
abbrev r0_1 : Rect S4096x256 := Rect.unit (s := S4096x256) ![0, 0] S4096x256.size inb_S4096x256_S4096x256_0_0
abbrev r0_2 : Rect S2048x256 := Rect.unit (s := S2048x256) ![0, 0] S2048x256.size inb_S2048x256_S2048x256_0_0
abbrev r0_3 : Rect S2048x128 := Rect.unit (s := S2048x128) ![0, 0] S2048x128.size inb_S2048x128_S2048x128_0_0

theorem zero2 : (![0, 0] : Fin 2 → ℕ) = fun _ => 0 := by funext d; fin_cases d <;> rfl

/-- A load of a whole buffer reads it. -/
theorem readAt_whole {κ sp} {S : Shape} {e : EltTy} (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

/-- The first conditional: the column block is the first. -/
abbrev cond0_0 (i : grid0.Coords) : Prop := k0_cond1 i = 1#1
theorem hcond0_0 : ∀ t : Fin cfg0.N, cond0_0 (grid0.coords t) ↔ t.val % 32 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- The second conditional: the column block is not the first. -/
abbrev cond0_1 (i : grid0.Coords) : Prop := k0_cond2 i = 1#1
theorem hcond0_1 : ∀ t : Fin cfg0.N, cond0_1 (grid0.coords t) ↔ 1 ≤ t.val % 32 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ 1 ≤ t.val % 32)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := by decide +kernel

/-- Window 4's buffer is fresh at the start and after each row block's last point. -/
def freshTab0_4 : ℕ → Bool
  | 0 => true
  | n + 1 => (0x80000000800000008000000080000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
theorem notFresh0_4 : ∀ t : Fin cfg0.N, ¬ t.val % 32 = 0 → cfg0.fresh 4 t.val = false := by
  intro t; rw [fresh0_4_eq t]; revert t; decide +kernel

/-! ## The body's triples, by case -/

theorem cover0_3 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y
theorem cover0_4 (p0 : Vec F S2048x128 .f32) (y : S2048x128.Idx) :
    ∃ pc ∈ ([⟨r0_3, p0⟩] : List (View.Piece (Elt F) S2048x128 .f32)), y ∈ pc.1.set :=
  View.cover_of_tiled [⟨r0_3, p0⟩] S2048x128.size (by rfl) y

set_option maxHeartbeats 1000000 in
/-- At the first column block: both outputs are stored from the inputs' blocks. -/
theorem sound_kernel0_A (c : Dev nD) (E : Set ℕ) (i : grid0.Coords) (arg2 : Memref sig .tc .vmem S2048x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2048x256 .f32) (harg5 : arg5.IsWhole) (arg6 : Memref sig .tc .vmem S2048x128 .f32) (harg6 : arg6.IsWhole)
    (hc0 : cond0_0 i) (hc1 : ¬cond0_1 i)
    (x0 : Vec F S2048x4096 .bf16) (x1 : Vec F S4096x256 .f32) (x2 : Vec F S4096x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1 x2) ∗ owns (c : Thread nD τ) arg6 fullShare (k0_pay2 x0 x1 x2)) -∗ K ⟨⟩))
      ⊢ wp frame (wpE (defs₀ (F := F)) Variants.none c none) E (cc0_gate_up i arg2 harg2 arg3 harg3 arg4 harg4 arg5 harg5 arg6 harg6) K := by
  simp only [cc0_gate_up_eq_skeleton]; unfold cc0_gate_up_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rw [View.canon_unit_zero (S := S2048x256) zero2, readAt_whole (S := S2048x4096) _ zero2, readAt_whole (S := S4096x256) arg3.view zero2, readAt_whole (S := S4096x256) arg4.view zero2]
  iexists _; isplitr
  swap; · iexact H4
  ipureintro
  refine (View.read_writes_eq_canon _ _ _ (cover0_4 _)).trans ?_
  rw [View.canon_unit_zero (S := S2048x128) zero2, readAt_whole (S := S2048x4096) _ zero2, readAt_whole (S := S4096x256) arg3.view zero2, readAt_whole (S := S4096x256) arg4.view zero2]

set_option maxHeartbeats 1000000 in
/-- At a later column block: the running maximum is updated from what the buffer held. -/
theorem sound_kernel0_B (c : Dev nD) (E : Set ℕ) (i : grid0.Coords) (arg2 : Memref sig .tc .vmem S2048x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2048x256 .f32) (harg5 : arg5.IsWhole) (arg6 : Memref sig .tc .vmem S2048x128 .f32) (harg6 : arg6.IsWhole)
    (hc0 : ¬cond0_0 i) (hc1 : cond0_1 i)
    (x0 : Vec F S2048x4096 .bf16) (x1 : Vec F S4096x256 .f32) (x2 : Vec F S4096x256 .f32) (xo4 : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1 x2) ∗ owns (c : Thread nD τ) arg6 fullShare (k0_pay3 x0 x1 x2 xo4)) -∗ K ⟨⟩))
      ⊢ wp frame (wpE (defs₀ (F := F)) Variants.none c none) E (cc0_gate_up i arg2 harg2 arg3 harg3 arg4 harg4 arg5 harg5 arg6 harg6) K := by
  simp only [cc0_gate_up_eq_skeleton]; unfold cc0_gate_up_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rw [View.canon_unit_zero (S := S2048x256) zero2, readAt_whole (S := S2048x4096) _ zero2, readAt_whole (S := S4096x256) arg3.view zero2, readAt_whole (S := S4096x256) arg4.view zero2]
  iexists _; isplitr
  swap; · iexact H4
  ipureintro
  refine (View.read_writes_eq_canon _ _ _ (cover0_4 _)).trans ?_
  rw [View.canon_unit_zero (S := S2048x128) zero2, readAt_whole (S := S2048x4096) _ zero2, readAt_whole (S := S4096x256) arg3.view zero2, readAt_whole (S := S4096x256) arg4.view zero2, readAt_whole (S := S2048x128) _ zero2]

/-! ## The pipeline's proof data -/

/-- What the running-maximum buffer holds after point `n`. -/
def amaxAt (c : Dev nD) : (n : ℕ) → n < cfg0.N → Vec F S2048x128 .f32
  | 0, h => k0_pay2 (iblk0 V c 0 ⟨0, h⟩) (iblk0 V c 1 ⟨0, h⟩) (iblk0 V c 2 ⟨0, h⟩)
  | n + 1, h =>
    if (n + 1) % 32 = 0 then k0_pay2 (iblk0 V c 0 ⟨n + 1, h⟩) (iblk0 V c 1 ⟨n + 1, h⟩) (iblk0 V c 2 ⟨n + 1, h⟩)
    else k0_pay3 (iblk0 V c 0 ⟨n + 1, h⟩) (iblk0 V c 1 ⟨n + 1, h⟩) (iblk0 V c 2 ⟨n + 1, h⟩) (amaxAt c n (Nat.lt_of_succ_lt h))

theorem amaxAt_A (c : Dev nD) (t : Fin cfg0.N) (h0 : t.val % 32 = 0) :
    amaxAt V c t.val t.isLt = k0_pay2 (iblk0 V c 0 t) (iblk0 V c 1 t) (iblk0 V c 2 t) := by
  obtain ⟨n, hn⟩ := t
  cases n with
  | zero => rfl
  | succ n => exact if_pos h0

theorem amaxAt_B (c : Dev nD) (t : Fin cfg0.N) (h0 : ¬ t.val % 32 = 0) :
    amaxAt V c t.val t.isLt = k0_pay3 (iblk0 V c 0 t) (iblk0 V c 1 t) (iblk0 V c 2 t)
      (amaxAt V c (t.val - 1) (Nat.lt_of_le_of_lt (Nat.sub_le _ _) t.isLt)) := by
  obtain ⟨n, hn⟩ := t
  cases n with
  | zero => exact absurd (Nat.zero_mod _) h0
  | succ n => exact if_neg h0

/-- The pipeline's proof data: each input's buffer at its block, the outputs' as above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
    | ⟨4, _⟩ => amaxAt V c t.val t.isLt
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (iblk0 V c 0 t) (iblk0 V c 1 t) (iblk0 V c 2 t) := by dsimp only [dat0]
theorem after0_4 (c : Dev nD) (t : Fin cfg0.N) : (dat0 V c).after 4 t = amaxAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  rw [liveAt0_4 t] at hi
  exact absurd hi Bool.false_ne_true
/-- At a later column block window 4's buffer holds what the point before left. -/
theorem before0_4_B (c : Dev nD) (t : Fin cfg0.N) (h0 : ¬t.val % 32 = 0) (d) :
    (dat0 V c).before 4 t d = amaxAt V c (t.val - 1) (Nat.lt_of_le_of_lt (Nat.sub_le _ _) t.isLt) := by
  rw [Dat.before_out_traj _ 4 rfl (fun _ _ => rfl) (hcarry0_4 V c) t.val t rfl d,
    if_neg (by rw [notFresh0_4 t h0]; exact Bool.false_ne_true)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body at any point, by the two cases. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  by_cases h0 : t.val % 32 = 0
  · rw [amaxAt_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0_0 t).mpr h0) (fun h => absurd ((hcond0_1 t).mp h) (by omega)) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [amaxAt_B V c t h0]
    simp only [before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond0_0 t).mp h)) ((hcond0_1 t).mpr (by omega)) (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Whole

end
-- ==== Proof.Bits.Down.lean ====
module

public import proofs.«01_k».proof.Proof.Bits.Gate

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: the quantised rows and their product with `w_down`

The grid is 16 × 8; point `t` is row block `t / 8`, column block `t % 8`. The row block's codes and scales (windows 5
and 6) are computed at `t % 8 = 0` and read at every point. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and conditions -/

abbrev q0 : Rect S512x8192 := Rect.unit (s := S512x8192) ![0, 0] S512x1024.size inb_S512x8192_S512x1024_0_0
abbrev q1 : Rect S512x8192 := Rect.unit (s := S512x8192) ![0, 1024] S512x1024.size inb_S512x8192_S512x1024_0_1024
abbrev q2 : Rect S512x8192 := Rect.unit (s := S512x8192) ![0, 2048] S512x1024.size inb_S512x8192_S512x1024_0_2048
abbrev q3 : Rect S512x8192 := Rect.unit (s := S512x8192) ![0, 3072] S512x1024.size inb_S512x8192_S512x1024_0_3072
abbrev q4 : Rect S512x8192 := Rect.unit (s := S512x8192) ![0, 4096] S512x1024.size inb_S512x8192_S512x1024_0_4096
abbrev q5 : Rect S512x8192 := Rect.unit (s := S512x8192) ![0, 5120] S512x1024.size inb_S512x8192_S512x1024_0_5120
abbrev q6 : Rect S512x8192 := Rect.unit (s := S512x8192) ![0, 6144] S512x1024.size inb_S512x8192_S512x1024_0_6144
abbrev q7 : Rect S512x8192 := Rect.unit (s := S512x8192) ![0, 7168] S512x1024.size inb_S512x8192_S512x1024_0_7168

/-- The conditional: the column block is the first. -/
abbrev cond1_0 (i : grid1.Coords) : Prop := k1_cond1 i = 1#1
theorem hcond1_0 : ∀ t : Fin cfg1.N, cond1_0 (grid1.coords t) ↔ t.val % 8 = 0 :=
  (fun t => by
    have ht : t.val < 128 := Nat.lt_of_lt_of_eq t.isLt N_1
    have e0 : (grid1.coords t 0).val = t.val / 8 % 16 := Pipeline.Grid.coords_val t 0 (by decide) rfl
    have e1 : (grid1.coords t 1).val = t.val / 1 % 8 := Pipeline.Grid.coords_val t 1 (by decide) rfl
    simp only [cond1_0, k1_cond1, e0, e1]
    word_cmp
   : ∀ t : Fin grid1.N, cond1_0 (grid1.coords t) ↔ t.val % 8 = 0)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, t.val % 8 = 0 → cfg1.idle 5 (grid1.coords t) = false := by decide +kernel
theorem liveAt1_6 : ∀ t : Fin cfg1.N, t.val % 8 = 0 → cfg1.idle 6 (grid1.coords t) = false := by decide +kernel
theorem idleAt1_5 : ∀ t : Fin cfg1.N, ¬ t.val % 8 = 0 → cfg1.idle 5 (grid1.coords t) = true := by decide +kernel
theorem idleAt1_6 : ∀ t : Fin cfg1.N, ¬ t.val % 8 = 0 → cfg1.idle 6 (grid1.coords t) = true := by decide +kernel

/-- The codes' and scales' buffers are fresh at the start and after each row block's last point. -/
def freshTab1 : ℕ → Bool
  | 0 => true
  | n + 1 => (0x80808080808080808080808080808080 : ℕ).testBit n
theorem freshTab1_step5 : ∀ t : Fin cfg1.N,
    freshTab1 (t.val + 1) = ((cfg1.win 5).flush t || (cfg1.idle 5 (cfg1.grid.coords t) && freshTab1 t.val)) := by decide +kernel
theorem freshTab1_step6 : ∀ t : Fin cfg1.N,
    freshTab1 (t.val + 1) = ((cfg1.win 6).flush t || (cfg1.idle 6 (cfg1.grid.coords t) && freshTab1 t.val)) := by decide +kernel
theorem fresh1_5_eq (t : Fin cfg1.N) : cfg1.fresh 5 t.val = freshTab1 t.val :=
  Pipeline.Cfg.fresh_tab cfg1 5 freshTab1 rfl freshTab1_step5 t.val (Nat.le_of_lt t.isLt)
theorem fresh1_6_eq (t : Fin cfg1.N) : cfg1.fresh 6 t.val = freshTab1 t.val :=
  Pipeline.Cfg.fresh_tab cfg1 6 freshTab1 rfl freshTab1_step6 t.val (Nat.le_of_lt t.isLt)
theorem notFresh1_5 : ∀ t : Fin cfg1.N, ¬ t.val % 8 = 0 → cfg1.fresh 5 t.val = false := by
  intro t; rw [fresh1_5_eq t]; revert t; decide +kernel
theorem notFresh1_6 : ∀ t : Fin cfg1.N, ¬ t.val % 8 = 0 → cfg1.fresh 6 t.val = false := by
  intro t; rw [fresh1_6_eq t]; revert t; decide +kernel

/-! ## What the body computes -/

/-- The scales of a row block, from the row maxima's lanes. -/
abbrev scaleOf (x1 : Vec F S512x128 .f32) : FVec F S512x1 .f32 :=
  k1_pay12 (k1_pay4 x1) (k1_pay5 x1) (k1_pay6 x1) (k1_pay7 x1) (k1_pay8 x1) (k1_pay9 x1)

/-- The exponents of the reciprocal scales, as floats. -/
abbrev negOf (x1 : Vec F S512x128 .f32) : FVec F S512x1 .f32 :=
  k1_pay13 (k1_pay4 x1) (k1_pay5 x1) (k1_pay6 x1) (k1_pay7 x1) (k1_pay8 x1) (k1_pay9 x1)

/-- The floats whose exponent bits are those exponents. -/
abbrev negBitsOf (x1 : Vec F S512x128 .f32) : FVec F S512x1 .f32 :=
  k1_pay14 (k1_pay4 x1) (k1_pay5 x1) (k1_pay6 x1) (k1_pay7 x1) (k1_pay8 x1) (k1_pay9 x1)

/-- The reciprocal scales of a row block, from the row maxima's lanes. -/
abbrev invOf (x1 : Vec F S512x128 .f32) : FVec F S512x1 .f32 := k1_pay15 (k1_pay11 (F := F)) (negOf x1) (negBitsOf x1)

/-- The codes of a row block: eight column chunks, each quantised with the block's reciprocal scales. -/
def codesOf (x0 : Vec F S512x8192 .f32) (x1 : Vec F S512x128 .f32) : Vec F S512x8192 .fp8e4m3 :=
  View.canon [⟨q7, k1_pay2 (invOf x1) (View.ld x0 q7)⟩,
    ⟨q6, k1_pay1 (k1_pay22 (invOf x1) (View.ld x0 q6)) (Scalar.ofBits .f32 0xC3E00000#32) (Scalar.ofBits .f32 0x43E00000#32)⟩,
    ⟨q5, k1_pay21 (invOf x1) (View.ld x0 q5)⟩,
    ⟨q4, k1_pay20 (invOf x1) (View.ld x0 q4)⟩,
    ⟨q3, k1_pay19 (invOf x1) (View.ld x0 q3)⟩,
    ⟨q2, k1_pay18 (k1_pay11 (F := F)) (negOf x1) (negBitsOf x1) (View.ld x0 q2)⟩,
    ⟨q1, k1_pay17 (k1_pay11 (F := F)) (negOf x1) (negBitsOf x1) (View.ld x0 q1)⟩,
    ⟨q0, k1_pay16 (k1_pay11 (F := F)) (negOf x1) (negBitsOf x1) (View.ld x0 q0)⟩]

theorem cover1_5 (p0 p1 p2 p3 p4 p5 p6 p7 : Vec F S512x1024 .fp8e4m3) (y : S512x8192.Idx) :
    ∃ pc ∈ ([⟨q7, p7⟩, ⟨q6, p6⟩, ⟨q5, p5⟩, ⟨q4, p4⟩, ⟨q3, p3⟩, ⟨q2, p2⟩, ⟨q1, p1⟩, ⟨q0, p0⟩] : List (View.Piece (Elt F) S512x8192 .fp8e4m3)), y ∈ pc.1.set :=
  View.cover_of_tiled [⟨q7, p7⟩, ⟨q6, p6⟩, ⟨q5, p5⟩, ⟨q4, p4⟩, ⟨q3, p3⟩, ⟨q2, p2⟩, ⟨q1, p1⟩, ⟨q0, p0⟩] S512x1024.size (by rfl) y
theorem cover1_4 (p0 : Vec F S512x512 .f32) (y : S512x512.Idx) :
    ∃ pc ∈ ([⟨Rect.unit (s := S512x512) ![0, 0] S512x512.size inb_S512x512_S512x512_0_0, p0⟩] : List (View.Piece (Elt F) S512x512 .f32)), y ∈ pc.1.set :=
  View.cover_of_tiled [⟨Rect.unit (s := S512x512) ![0, 0] S512x512.size inb_S512x512_S512x512_0_0, p0⟩] S512x512.size (by rfl) y
theorem cover1_6 (p0 : Vec F S512x1 .f32) (y : S512x1.Idx) :
    ∃ pc ∈ ([⟨Rect.unit (s := S512x1) ![0, 0] S512x1.size inb_S512x1_S512x1_0_0, p0⟩] : List (View.Piece (Elt F) S512x1 .f32)), y ∈ pc.1.set :=
  View.cover_of_tiled [⟨Rect.unit (s := S512x1) ![0, 0] S512x1.size inb_S512x1_S512x1_0_0, p0⟩] S512x1.size (by rfl) y

/-! ## The body's triples, by case -/

set_option maxHeartbeats 1000000 in
/-- At the first column block: codes and scales are computed from the inputs' blocks and used. -/
theorem sound_kernel1_A (c : Dev nD) (E : Set ℕ) (i : grid1.Coords) (arg2 : Memref sig .tc .vmem S512x8192 .f32) (harg2 : arg2.IsWhole) (arg3 : Memref sig .tc .vmem S512x128 .f32) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S512x512 .f32) (harg6 : arg6.IsWhole) (arg7 : Memref sig .tc .vmem S512x8192 .fp8e4m3) (harg7 : arg7.IsWhole) (arg8 : Memref sig .tc .vmem S512x1 .f32) (harg8 : arg8.IsWhole)
    (hc0 : cond1_0 i)
    (x0 : Vec F S512x8192 .f32) (x1 : Vec F S512x128 .f32) (x2 : Vec F S8192x512 .fp8e4m3) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (codesOf x0 x1) x2 (scaleOf x1) x3) ∗ owns (c : Thread nD τ) arg7 fullShare (codesOf x0 x1) ∗ owns (c : Thread nD τ) arg8 fullShare (scaleOf x1)) -∗ K ⟨⟩))
      ⊢ wp frame (wpE (defs₀ (F := F)) Variants.none c none) E (cc1_down i arg2 harg2 arg3 harg3 arg4 harg4 arg5 harg5 arg6 harg6 arg7 harg7 arg8 harg8) K := by
  simp only [cc1_down_eq_skeleton]; unfold cc1_down_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    have e3 : sound_kernel1_A.sl.v3 c arg2 arg3 arg7 f0 f1 = codesOf (arg2.view.read (Elt F) f0) (arg3.view.read (Elt F) f1) := by
      unfold sound_kernel1_A.sl.v3
      unfold sound_kernel1_A.sl.H5_8
      refine (View.readCov_eq_canon_ld _ _ _ (cover1_5 _ _ _ _ _ _ _ _)).trans ?_
      rw [View.ld_unit_zero (S := S512x8192) zero2]
      unfold sound_kernel1_A.sl.r_10 sound_kernel1_A.sl.r_9 sound_kernel1_A.sl.r_8 sound_kernel1_A.sl.r_7 sound_kernel1_A.sl.r_6 sound_kernel1_A.sl.r_5 sound_kernel1_A.sl.r_4 sound_kernel1_A.sl.r_3 sound_kernel1_A.sl.r_2 sound_kernel1_A.sl.r_1 sound_kernel1_A.sl.r sound_kernel1_A.sl.cst_74 sound_kernel1_A.sl.cst_75 codesOf invOf negOf negBitsOf
      rw [readAt_whole (S := S512x128) arg3.view zero2]
      rfl
    have e7 : sound_kernel1_A.sl.v7 c arg3 arg8 f1 = scaleOf (arg3.view.read (Elt F) f1) := by
      unfold sound_kernel1_A.sl.v7 sound_kernel1_A.sl.H6_1
      refine (View.readCov_eq_canon_ld _ _ _ (cover1_6 _)).trans ?_
      rw [View.ld_unit_zero (S := S512x1) zero2, View.canon_unit_zero (S := S512x1) zero2]
      unfold sound_kernel1_A.sl.r_5 sound_kernel1_A.sl.r_4 sound_kernel1_A.sl.r_3 sound_kernel1_A.sl.r_2 sound_kernel1_A.sl.r_1 sound_kernel1_A.sl.r
      rw [readAt_whole (S := S512x128) _ zero2]
    rw [View.canon_unit_zero (S := S512x512) zero2, readAt_whole (S := S8192x512) _ zero2, readAt_whole (S := S1x512) _ zero2, e3, e7]
  isplitl [H5]
  · iexists _; isplitr
    swap; · iexact H5
    ipureintro
    refine (View.read_writes_eq_canon _ _ _ (cover1_5 _ _ _ _ _ _ _ _)).trans ?_
    unfold sound_kernel1_A.sl.r_10 sound_kernel1_A.sl.r_9 sound_kernel1_A.sl.r_8 sound_kernel1_A.sl.r_7 sound_kernel1_A.sl.r_6 sound_kernel1_A.sl.r_5 sound_kernel1_A.sl.r_4 sound_kernel1_A.sl.r_3 sound_kernel1_A.sl.r_2 sound_kernel1_A.sl.r_1 sound_kernel1_A.sl.r sound_kernel1_A.sl.cst_74 sound_kernel1_A.sl.cst_75 codesOf invOf negOf negBitsOf
    rw [readAt_whole (S := S512x128) arg3.view zero2]
    rfl
  iexists _; isplitr
  swap; · iexact H6
  ipureintro
  refine (View.read_writes_eq_canon _ _ _ (cover1_6 _)).trans ?_
  rw [View.canon_unit_zero (S := S512x1) zero2]
  unfold sound_kernel1_A.sl.r_5 sound_kernel1_A.sl.r_4 sound_kernel1_A.sl.r_3 sound_kernel1_A.sl.r_2 sound_kernel1_A.sl.r_1 sound_kernel1_A.sl.r
  rw [readAt_whole (S := S512x128) _ zero2]

set_option maxHeartbeats 1000000 in
/-- At a later column block: the codes and scales already in their buffers are used, and left. -/
theorem sound_kernel1_B (c : Dev nD) (E : Set ℕ) (i : grid1.Coords) (arg2 : Memref sig .tc .vmem S512x8192 .f32) (harg2 : arg2.IsWhole) (arg3 : Memref sig .tc .vmem S512x128 .f32) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S512x512 .f32) (harg6 : arg6.IsWhole) (arg7 : Memref sig .tc .vmem S512x8192 .fp8e4m3) (harg7 : arg7.IsWhole) (arg8 : Memref sig .tc .vmem S512x1 .f32) (harg8 : arg8.IsWhole)
    (hc0 : ¬cond1_0 i)
    (x0 : Vec F S512x8192 .f32) (x1 : Vec F S512x128 .f32) (x2 : Vec F S8192x512 .fp8e4m3) (x3 : Vec F S1x512 .f32)
    (xo5 : Vec F S512x8192 .fp8e4m3) (xo6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 xo5 x2 xo6 x3) ∗ owns (c : Thread nD τ) arg7 fullShare xo5 ∗ owns (c : Thread nD τ) arg8 fullShare xo6) -∗ K ⟨⟩))
      ⊢ wp frame (wpE (defs₀ (F := F)) Variants.none c none) E (cc1_down i arg2 harg2 arg3 harg3 arg4 harg4 arg5 harg5 arg6 harg6 arg7 harg7 arg8 harg8) K := by
  simp only [cc1_down_eq_skeleton]; unfold cc1_down_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    rw [View.canon_unit_zero (S := S512x512) zero2, readAt_whole (S := S512x8192) arg7.view zero2, readAt_whole (S := S8192x512) _ zero2, readAt_whole (S := S512x1) _ zero2, readAt_whole (S := S1x512) _ zero2]
  isplitl [H5]
  · iexists f5; isplitr; · ipureintro; rfl
    iexact H5
  iexists f6; isplitr; · ipureintro; rfl
  iexact H6

/-! ## The pipeline's proof data -/

/-- What the codes' buffer holds after point `n`. -/
def codesAt (c : Dev nD) : (n : ℕ) → n < cfg1.N → Vec F S512x8192 .fp8e4m3
  | 0, h => codesOf (iblk1 V c 0 ⟨0, h⟩) (iblk1 V c 1 ⟨0, h⟩)
  | n + 1, h =>
    if (n + 1) % 8 = 0 then codesOf (iblk1 V c 0 ⟨n + 1, h⟩) (iblk1 V c 1 ⟨n + 1, h⟩)
    else codesAt c n (Nat.lt_of_succ_lt h)
/-- What the scales' buffer holds after point `n`. -/
def scaleAt (c : Dev nD) : (n : ℕ) → n < cfg1.N → Vec F S512x1 .f32
  | 0, h => scaleOf (iblk1 V c 1 ⟨0, h⟩)
  | n + 1, h =>
    if (n + 1) % 8 = 0 then scaleOf (iblk1 V c 1 ⟨n + 1, h⟩)
    else scaleAt c n (Nat.lt_of_succ_lt h)

theorem codesAt_A (c : Dev nD) (t : Fin cfg1.N) (h0 : t.val % 8 = 0) :
    codesAt V c t.val t.isLt = codesOf (iblk1 V c 0 t) (iblk1 V c 1 t) := by
  obtain ⟨n, hn⟩ := t
  cases n with
  | zero => rfl
  | succ n => exact if_pos h0
theorem codesAt_B (c : Dev nD) (t : Fin cfg1.N) (h0 : ¬ t.val % 8 = 0) :
    codesAt V c t.val t.isLt = codesAt V c (t.val - 1) (Nat.lt_of_le_of_lt (Nat.sub_le _ _) t.isLt) := by
  obtain ⟨n, hn⟩ := t
  cases n with
  | zero => exact absurd (Nat.zero_mod _) h0
  | succ n => exact if_neg h0
theorem scaleAt_A (c : Dev nD) (t : Fin cfg1.N) (h0 : t.val % 8 = 0) :
    scaleAt V c t.val t.isLt = scaleOf (iblk1 V c 1 t) := by
  obtain ⟨n, hn⟩ := t
  cases n with
  | zero => rfl
  | succ n => exact if_pos h0
theorem scaleAt_B (c : Dev nD) (t : Fin cfg1.N) (h0 : ¬ t.val % 8 = 0) :
    scaleAt V c t.val t.isLt = scaleAt V c (t.val - 1) (Nat.lt_of_le_of_lt (Nat.sub_le _ _) t.isLt) := by
  obtain ⟨n, hn⟩ := t
  cases n with
  | zero => exact absurd (Nat.zero_mod _) h0
  | succ n => exact if_neg h0

/-- The pipeline's proof data: each input's buffer at its block, the outputs' as above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (codesAt V c t.val t.isLt) (iblk1 V c 2 t) (scaleAt V c t.val t.isLt) (iblk1 V c 3 t)
    | ⟨5, _⟩ => codesAt V c t.val t.isLt
    | ⟨6, _⟩ => scaleAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (codesAt V c t.val t.isLt) (iblk1 V c 2 t) (scaleAt V c t.val t.isLt) (iblk1 V c 3 t) := by dsimp only [dat1]
theorem after1_5 (c : Dev nD) (t : Fin cfg1.N) : (dat1 V c).after 5 t = codesAt V c t.val t.isLt := by dsimp only [dat1]
theorem after1_6 (c : Dev nD) (t : Fin cfg1.N) : (dat1 V c).after 6 t = scaleAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  rw [after1_5, after1_5]
  by_cases h0 : t.val % 8 = 0
  · rw [liveAt1_5 t h0] at hi
    exact absurd hi Bool.false_ne_true
  · exact codesAt_B V c t h0
theorem hcarry1_6 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  rw [after1_6, after1_6]
  by_cases h0 : t.val % 8 = 0
  · rw [liveAt1_6 t h0] at hi
    exact absurd hi Bool.false_ne_true
  · exact scaleAt_B V c t h0
/-- At a later column block the codes' buffer holds what the point before left, which is what this point leaves. -/
theorem before1_5_B (c : Dev nD) (t : Fin cfg1.N) (h0 : ¬t.val % 8 = 0) (d) :
    (dat1 V c).before 5 t d = codesAt V c t.val t.isLt := by
  rw [Dat.before_out_traj _ 5 rfl (fun _ _ => rfl) (hcarry1_5 V c) t.val t rfl d,
    if_neg (by rw [notFresh1_5 t h0]; exact Bool.false_ne_true), codesAt_B V c t h0]
  dsimp only [dat1]
theorem before1_6_B (c : Dev nD) (t : Fin cfg1.N) (h0 : ¬t.val % 8 = 0) (d) :
    (dat1 V c).before 6 t d = scaleAt V c t.val t.isLt := by
  rw [Dat.before_out_traj _ 6 rfl (fun _ _ => rfl) (hcarry1_6 V c) t.val t rfl d,
    if_neg (by rw [notFresh1_6 t h0]; exact Bool.false_ne_true), scaleAt_B V c t h0]
  dsimp only [dat1]
/-- There the body leaves them as found: what the obligation asks, whether or not the block is written back. -/
theorem leaves1_5_B (c : Dev nD) (t : Fin cfg1.N) (h0 : ¬t.val % 8 = 0) :
    (owns (c : Thread nD τ) (st1_5 t) fullShare (codesAt V c t.val t.isLt) : sProp 𝕄) ⊢ (dat1 V c).leavesExact 5 t := by
  unfold Dat.leavesExact; rw [idleAt1_5 t h0]
  cases hf : (cfg1.win 5).flush t
  · simp only [before1_5_B V c t h0]
    iintro H; iexists (codesAt V c t.val t.isLt); iexact H
  · rw [after1_5]
theorem leaves1_6_B (c : Dev nD) (t : Fin cfg1.N) (h0 : ¬t.val % 8 = 0) :
    (owns (c : Thread nD τ) (st1_6 t) fullShare (scaleAt V c t.val t.isLt) : sProp 𝕄) ⊢ (dat1 V c).leavesExact 6 t := by
  unfold Dat.leavesExact; rw [idleAt1_6 t h0]
  cases hf : (cfg1.win 6).flush t
  · simp only [before1_6_B V c t h0]
    iintro H; iexists (scaleAt V c t.val t.isLt); iexact H
  · rw [after1_6]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 800000 in
/-- The body at any point, by the two cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 128 := lt_of_lt_of_eq t.isLt (show cfg1.N = 128 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val % 8 = 0
  · rw [show (dat1 V c).leavesExact 5 t = owns (c : Thread nD τ) (st1_5 t) fullShare ((dat1 V c).after 5 t) from by
      unfold Dat.leavesExact; rw [liveAt1_5 t h0], after1_5]
    rw [show (dat1 V c).leavesExact 6 t = owns (c : Thread nD τ) (st1_6 t) fullShare ((dat1 V c).after 6 t) from by
      unfold Dat.leavesExact; rw [liveAt1_6 t h0], after1_6]
    rw [codesAt_A V c t h0, scaleAt_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ ((hcond1_0 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ (fun h => h0 ((hcond1_0 t).mp h)) (iblk1 V c 0 t) (iblk1 V c 1 t) (iblk1 V c 2 t) (iblk1 V c 3 t) (codesAt V c t.val t.isLt) (scaleAt V c t.val t.isLt) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves1_5_B V c t h0); iexact H5
    iapply (leaves1_6_B V c t h0); iexact H6

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Whole

end
-- ==== Proof.Bits.Run.lean ====
module

public import proofs.«01_k».proof.Proof.Bits.Down
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every fair execution terminates without fault, every semaphore ends at
    zero, and every buffer of a core ends at the contents `W5` the segments compute. -/
theorem run : θ_run defs (onTc (τ := τ) (main (F := F))) ⟨m, fun _ => 0, ρ⟩ (fun r =>
      (∀ (c : Dev nD), ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- The frame: the arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run m ρ)

end Cert.Kernel.Whole

end
-- ==== Proof.Values.Spec.lean ====
/-
  The mathematics of the kernel on extended reals, entry by entry and free of any program: the hidden activations, the
  greatest magnitude of a row, the exponent of a row's scale, the codes and the result. Besides the definitions this file
  proves the three facts the comparison of the programs needs: the float with given exponent bits is the power of two, the
  exponent found by logarithm and corrected by comparisons is the exponent found by logarithm alone, and the fold of `max`
  over a row is its supremum.
-/
module

public import Idealize.ShloMosaic.Lib.ValueIdx
public import Idealize.ShloMosaic.Lib.MatmulPlain
public import Idealize.ShloMosaic.PureOps.Ideal.Laws
public import Mathlib.Analysis.SpecialFunctions.Pow.Real

@[expose] public section

noncomputable section

namespace Cert.Spec

open Idealize.ShloMosaic Idealize.ShloMosaic.ValueIdx

/-- A matrix of extended reals. -/
abbrev Mat (m n : ℕ) : Type := (⟨2, ![m, n]⟩ : Shape).Idx → EReal

/-- Entry `(r, n)` of the product of the tokens and the gate/up weights. -/
def proj (X : Mat 8192 4096) (W : Mat 4096 16384) (r : Fin 8192) (n : Fin 16384) : EReal :=
  ∑ k : Fin 4096, X (ix2 r k) * W (ix2 k n)

/-- The gate's column for hidden unit `f`. -/
def gateCol (f : Fin 8192) : Fin 16384 := ⟨f.val, by omega⟩

/-- The up projection's column for hidden unit `f`. -/
def upCol (f : Fin 8192) : Fin 16384 := ⟨8192 + f.val, by omega⟩

/-- The hidden activation of token `r` at unit `f`: `silu(gate) · up`. -/
def hid (X : Mat 8192 4096) (W : Mat 4096 16384) (r f : Fin 8192) : EReal :=
  proj X W r (gateCol f) * Ideal.logistic (proj X W r (gateCol f)) * proj X W r (upCol f)

/-- The magnitude `|x|`. -/
def mag (x : EReal) : EReal := max x (-x)

/-- The greatest magnitude of a row. -/
def rowMax (H : Fin 8192 → EReal) : EReal := ⨆ f, mag (H f)

/-- The row's greatest magnitude over the greatest code value 448. -/
def ratio (a : EReal) : EReal := a * Ideal.ofBits .f32 0x3B124925#32

/-- `⌊log₂ x⌋ + 1`. -/
def log2Up (x : EReal) : EReal :=
  Ideal.liftRound Int.floor (Ideal.div (Ideal.log x) (Ideal.log (Ideal.ofBits .f32 0x40000000#32))) + Ideal.ofBits .f32 0x3F800000#32

/-- Whether `0 < x < ∞`, as the word a comparison yields. -/
def regular (x : EReal) : BitVec 1 :=
  IntOp.andi (Ideal.cmp .ogt x (Ideal.ofBits .f32 0x00000000#32)) (Ideal.cmp .olt x (Ideal.ofBits .f32 0x7F800000#32))

/-- The exponent of a row's power-of-two scale, from the row's greatest magnitude. -/
def expo (a : EReal) : BitVec 32 :=
  Scalar.select (Ideal.cmp .oeq a (Ideal.ofBits .f32 0x00000000#32)) 0#32
    (Ideal.fptosi 32 (Scalar.select (regular (ratio a)) (log2Up (ratio a)) (Ideal.ofBits .f32 0x00000000#32)))

/-- `2 ^ e` of a word `e`. -/
def twoTo (e : BitVec 32) : EReal := Ideal.exp2 (((e.toInt : ℝ)) : EReal)

/-- The row's scale. -/
def scale (a : EReal) : EReal := twoTo (expo a)

/-- The reciprocal of the row's scale. -/
def scaleInv (a : EReal) : EReal := twoTo (IntOp.subi 0#32 (expo a))

/-- The code of an entry `h` of a row whose greatest magnitude is `a`. -/
def code (a h : EReal) : EReal :=
  min (Ideal.ofBits .f32 0x43E00000#32) (max (Ideal.ofBits .f32 0xC3E00000#32) (h * scaleInv a))

/-- Entry `n` of the result's row: the codes times the weight column, times the row's scale, times the column's scale. -/
def outEntry (H : Fin 8192 → EReal) (WD : Mat 8192 4096) (n : Fin 4096) (ws : EReal) : EReal :=
  (∑ f : Fin 8192, code (rowMax H) (H f) * WD (ix2 f n)) * scale (rowMax H) * ws

/-! ## Constants -/

theorem ofBits_two : Ideal.ofBits .f32 0x40000000#32 = ((2 : ℝ) : EReal) := by
  simp [Ideal.ofBits, Ideal.ieee]
  rw [← EReal.coe_mul]; norm_num

theorem ofBits_one : Ideal.ofBits .f32 0x3F800000#32 = ((1 : ℝ) : EReal) := by
  simp [Ideal.ofBits, Ideal.ieee]
  rw [← EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-! ## Powers of two by their exponent bits -/

theorem select_ofBool {α : Type} (p : Bool) (a b : α) : Scalar.select (BitVec.ofBool p) a b = if p then a else b := by
  cases p <;> rfl

theorem ofBits_low : Ideal.ofBits .f32 0xC2FC0000#32 = ((-126 : ℝ) : EReal) := by
  simp [Ideal.ofBits, Ideal.ieee, -EReal.coe_mul]; norm_num

theorem ofBits_high : Ideal.ofBits .f32 0x42FE0000#32 = ((127 : ℝ) : EReal) := by
  simp [Ideal.ofBits, Ideal.ieee, -EReal.coe_mul]; norm_num

/-- An integer in range survives the trip through a float and back. -/
theorem fptosi_int (n : ℤ) (h0 : -126 ≤ n) (h1 : n ≤ 127) : Ideal.fptosi 32 ((n : ℝ) : EReal) = BitVec.ofInt 32 n := by
  unfold Ideal.fptosi
  rw [Ideal.toIntClamped_coe, Int.floor_intCast, Int.ceil_intCast, ite_self]
  congr 1
  norm_num
  omega

/-- Adding the bias and shifting past the fraction puts `k - 127` into the exponent's bits, and nothing elsewhere. -/
theorem exponent_bits : ∀ k : Fin 255,
    IntOp.shli .vector (IntOp.addi (BitVec.ofInt 32 ((k.val : ℤ) - 127)) 127#32) 23#32 = BitVec.ofNat 32 (k.val * 2 ^ 23)
    ∧ (BitVec.extractLsb' 23 8 (BitVec.ofNat 32 (k.val * 2 ^ 23))).toNat = k.val
    ∧ (BitVec.extractLsb' 0 23 (BitVec.ofNat 32 (k.val * 2 ^ 23))).toNat = 0
    ∧ (BitVec.extractLsb' (8 + 23) 1 (BitVec.ofNat 32 (k.val * 2 ^ 23)) == 1#1) = false := by
  decide +kernel

/-- The float whose exponent bits say `n` is `2 ^ n`. -/
theorem ofBits_exponent (n : ℤ) (h0 : -126 ≤ n) (h1 : n ≤ 127) :
    Ideal.ofBits .f32 (IntOp.shli .vector (IntOp.addi (BitVec.ofInt 32 n) 127#32) 23#32) = ((Real.rpow 2 (n : ℝ) : ℝ) : EReal) := by
  obtain ⟨k, rfl⟩ : ∃ k : ℕ, n = (k : ℤ) - 127 := ⟨(n + 127).toNat, by omega⟩
  have k0 : 1 ≤ k := by omega
  have k1 : k ≤ 254 := by omega
  have kf := exponent_bits ⟨k, by omega⟩
  obtain ⟨hs, hx, hf, hg⟩ := kf
  rw [hs]
  show Ideal.ieee 8 23 (BitVec.ofNat 32 (k * 2 ^ 23)) = _
  unfold Ideal.ieee
  simp only [hx, hf, hg]
  rw [if_neg (by omega), if_neg (by omega)]
  congr 1
  have : Real.rpow 2 (((k : ℤ) - 127 : ℤ) : ℝ) = (2 : ℝ) ^ ((k : ℤ) - 127) := Real.rpow_intCast 2 _
  rw [this]
  have e2 : ((2 ^ 23 + 0 : ℕ) : ℝ) = (2 : ℝ) ^ (23 : ℤ) := by norm_num
  rw [e2]
  simp only [Bool.false_eq_true, if_false, one_mul]
  rw [← zpow_add₀ (by norm_num : (2 : ℝ) ≠ 0)]
  congr 1
  norm_num

/-- `2 ^ e` of an integer-valued `e`: by its exponent bits where that is a normal number, else by `exp2`. -/
def power (e : EReal) : EReal :=
  Scalar.select (IntOp.andi (Ideal.cmp .oge e (Ideal.ofBits .f32 0xC2FC0000#32)) (Ideal.cmp .ole e (Ideal.ofBits .f32 0x42FE0000#32)))
    (Ideal.ofBits .f32 (IntOp.shli .vector (IntOp.addi (Ideal.fptosi 32 e) 127#32) 23#32)) (Ideal.exp2 e)

/-- For an integer both ways give the same. -/
theorem power_int (n : ℤ) : power ((n : ℝ) : EReal) = Ideal.exp2 ((n : ℝ) : EReal) := by
  unfold power
  rw [ofBits_low, ofBits_high]
  by_cases h : -126 ≤ n ∧ n ≤ 127
  · rw [fptosi_int n h.1 h.2, ofBits_exponent n h.1 h.2, Ideal.exp2_coe]
    exact ite_self _
  · have : IntOp.andi (Ideal.cmp .oge ((n : ℝ) : EReal) ((-126 : ℝ) : EReal)) (Ideal.cmp .ole ((n : ℝ) : EReal) ((127 : ℝ) : EReal)) = 0#1 := by
      unfold Ideal.cmp
      rcases not_and_or.mp h with h | h
      · rw [decide_eq_false (p := ((-126 : ℝ) : EReal) ≤ ((n : ℝ) : EReal)) (by rw [EReal.coe_le_coe_iff]; exact_mod_cast h)]
        exact BitVec.zero_and
      · rw [decide_eq_false (p := ((n : ℝ) : EReal) ≤ ((127 : ℝ) : EReal)) (by rw [EReal.coe_le_coe_iff]; exact_mod_cast h)]
        exact BitVec.and_zero
    rw [this]; rfl

/-- The same for the integer `n + 1`. -/
theorem power_succ (n : ℤ) : power (((n : ℝ) + 1 : ℝ) : EReal) = Ideal.exp2 (((n : ℝ) + 1 : ℝ) : EReal) := by
  have h : (n : ℝ) + 1 = ((n + 1 : ℤ) : ℝ) := by push_cast; rfl
  rw [h]
  exact power_int (n + 1)

/-- For the integer of a word the power by exponent bits is the power of two. -/
theorem power_word (e : BitVec 32) : power (((e.toInt : ℝ)) : EReal) = twoTo e := power_int e.toInt

/-! ## The exponent -/

/-- The exponent lowered by one where it is too high for `x`. -/
def lowered (x e : EReal) : EReal :=
  Scalar.select (Ideal.cmp .olt x (power (e - Ideal.ofBits .f32 0x3F800000#32))) (e - Ideal.ofBits .f32 0x3F800000#32) e

/-- The exponent raised by one where it is too low for `x`. -/
def raised (x e : EReal) : EReal :=
  Scalar.select (Ideal.cmp .oge x (power e)) (e + Ideal.ofBits .f32 0x3F800000#32) e

/-- For a positive real neither correction changes the exponent found by logarithm. -/
theorem corrected_coe {x : ℝ} (hx : 0 < x) : raised x (lowered x (log2Up x)) = log2Up x := by
  have h2 : (0 : ℝ) < Real.log 2 := Real.log_pos (by norm_num)
  have e0 : log2Up x = (((⌊Real.log x / Real.log 2⌋ : ℝ) + 1 : ℝ) : EReal) := by
    unfold log2Up
    rw [ofBits_two, ofBits_one, Ideal.log_coe, Ideal.log_coe, if_neg (not_le.mpr hx), if_neg (by norm_num), Ideal.div,
      if_neg (by exact_mod_cast h2.ne'), ← EReal.coe_inv, ← EReal.coe_mul, Ideal.liftRound_coe, ← EReal.coe_add, ← div_eq_mul_inv]
  set n : ℤ := ⌊Real.log x / Real.log 2⌋ with hn
  have hle : (2 : ℝ) ^ ((n : ℝ)) ≤ x := by
    have := Int.floor_le (Real.log x / Real.log 2)
    rw [← hn] at this
    calc (2 : ℝ) ^ ((n : ℝ)) ≤ (2 : ℝ) ^ (Real.log x / Real.log 2) := Real.rpow_le_rpow_of_exponent_le (by norm_num) this
      _ = x := by
        rw [Real.rpow_def_of_pos (by norm_num), mul_div_cancel₀ _ h2.ne', Real.exp_log hx]
  have hlt : x < (2 : ℝ) ^ ((n : ℝ) + 1) := by
    have := Int.lt_floor_add_one (Real.log x / Real.log 2)
    rw [← hn] at this
    calc x = (2 : ℝ) ^ (Real.log x / Real.log 2) := by
          rw [Real.rpow_def_of_pos (by norm_num), mul_div_cancel₀ _ h2.ne', Real.exp_log hx]
      _ < (2 : ℝ) ^ ((n : ℝ) + 1) := Real.rpow_lt_rpow_of_exponent_lt (by norm_num) this
  have e1 : lowered x (log2Up x) = log2Up x := by
    unfold lowered Ideal.cmp
    rw [select_ofBool, e0, ofBits_one, ← EReal.coe_sub, add_sub_cancel_right, power_int, Ideal.exp2_coe]
    have : ¬ ((x : EReal) < ((Real.rpow 2 (n : ℝ) : ℝ) : EReal)) := by
      rw [EReal.coe_lt_coe_iff]; exact not_lt.mpr hle
    rw [decide_eq_false this]; rfl
  rw [e1]
  unfold raised Ideal.cmp
  rw [select_ofBool, e0, ofBits_one, power_succ, Ideal.exp2_coe]
  have : ¬ (((Real.rpow 2 ((n : ℝ) + 1) : ℝ) : EReal) ≤ (x : EReal)) := by
    rw [EReal.coe_le_coe_iff]; exact not_le.mpr hlt
  rw [decide_eq_false this]; rfl

/-- On every extended real the corrected exponent and the plain one select the same value. -/
theorem select_corrected (x z : EReal) :
    Scalar.select (regular x) (raised x (lowered x (log2Up x))) z = Scalar.select (regular x) (log2Up x) z := by
  by_cases h : 0 < x ∧ x < ⊤
  · obtain ⟨h0, h1⟩ := h
    induction x using EReal.rec with
    | bot => exact absurd h0 (by simp)
    | top => exact absurd h1 (lt_irrefl _)
    | coe r => rw [corrected_coe (by exact_mod_cast h0)]
  · have : regular x = 0#1 := by
      unfold regular Ideal.cmp
      rw [Ideal.ofBits_zero_f32, ofBits_top]
      rcases not_and_or.mp h with h | h <;> simp [h, IntOp.andi]
    rw [this]; rfl

/-! ## The greatest magnitude of a row -/

/-- The fold of `max` from `-∞` is the supremum. -/
theorem fold_max_eq_iSup {n : ℕ} (f : Fin n → EReal) :
    (Finset.univ : Finset (Fin n)).fold max (Ideal.ofBits .f32 0xFF800000#32) f = ⨆ i, f i := by
  rw [ofBits_bot, ← Finset.sup_univ_eq_iSup]
  rfl

end Cert.Spec

end
-- ==== Proof.Values.Layout.lean ====
/-
  What a few layout operations, a product and a row maximum read at an index, at any extents.
-/
module

public import proofs.«01_k».proof.Proof.Values.Spec
public import Idealize.ShloMosaic.Lib.Pipeline.Value
public import Idealize.ShloMosaic.Lib.ValueLayout

@[expose] public section

noncomputable section

namespace Cert.Spec

open Idealize.ShloMosaic Idealize.ShloMosaic.ValueIdx

variable {α : Type} {a b : ℕ}

/-- A vector made a column holds at row `r` the vector's entry `r`. -/
theorem column_apply (x : (⟨1, ![a]⟩ : Shape).Idx → α) (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  have : z.val = 0 := by omega
  show r.val = r.val * 1 + z.val
  omega

/-- A column spread over `b` columns holds at `(r, c)` the column's row `r`. -/
theorem spread_apply (x : (⟨2, ![a, 1]⟩ : Shape).Idx → α) (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h _ _ fun d => ?_
  match d with
  | ⟨0, _⟩ =>
    show r.val = if a = 1 then 0 else r.val
    have := r.isLt
    split <;> omega
  | ⟨1, _⟩ => rfl

/-- A product accumulated onto zero, read at `(r, c)`. -/
theorem product_apply {M K N : ℕ} {φ₁ φ₂ : FTy} (lhs : FVec Ideal ⟨2, ![M, K]⟩ φ₁) (rhs : FVec Ideal ⟨2, ![K, N]⟩ φ₂)
    (r : Fin M) (c : Fin N) :
    matmul (DotDims.plain M K N) none lhs rhs (constant (F := Ideal) ⟨2, ![M, N]⟩ .f32 0x00000000#32) (ix2 r c)
      = ∑ k : Fin K, lhs (ix2 r k) * rhs (ix2 k c) := by
  show FloatOps.matmul (DotDims.plain M K N) none lhs rhs _ (ix2 r c) = _
  rw [Ideal.matmul_plain_apply, constant_apply, Ideal.ofBits_zero_f32, zero_add]

/-- The maximum over a row, from `-∞`, is the supremum of the row. -/
theorem rowMaximum_apply (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ x 0xFF800000#32 h hφ hacc (ix1 r) = ⨆ c : Fin b, x (ix2 r c) := by
  rw [Ideal.multiReduction_maximumf_single]
  refine (fold_max_eq_iSup _).trans (iSup_congr fun c => ?_)
  refine congrArg x (funext fun d => Fin.ext ?_)
  match d with
  | ⟨0, _⟩ => rfl
  | ⟨1, _⟩ => rfl

/-- The exponent as the array operations compute it, entry by entry. -/
theorem exponent_word {S : Shape} (v : FVec Ideal S .f32) (i : S.Idx) :
    select (cmpf .oeq v (broadcast S (Scalar.ofBits .f32 0x00000000#32))) (broadcast S (0#32 : BitVec 32))
      (fptosi 32 (select (andi (cmpf .ogt (mulf v (broadcast S (Scalar.ofBits .f32 0x3B124925#32))) (broadcast S (Scalar.ofBits .f32 0x00000000#32)))
          (cmpf .olt (mulf v (broadcast S (Scalar.ofBits .f32 0x3B124925#32))) (broadcast S (Scalar.ofBits .f32 0x7F800000#32))))
        (addf (floor (divf (log (mulf v (broadcast S (Scalar.ofBits .f32 0x3B124925#32)))) (log (broadcast S (Scalar.ofBits .f32 0x40000000#32))))) (broadcast S (Scalar.ofBits .f32 0x3F800000#32)))
        (broadcast S (Scalar.ofBits .f32 0x00000000#32)))) i
      = expo (v i) := rfl

/-- `2 ^ e` of every entry as the array operations compute it. -/
abbrev powers {S : Shape} (e : FVec Ideal S .f32) : FVec Ideal S .f32 :=
  select (andi (cmpf .oge e (broadcast S (Scalar.ofBits .f32 0xC2FC0000#32))) (cmpf .ole e (broadcast S (Scalar.ofBits .f32 0x42FE0000#32))))
    (bitcastToFloat .f32 (shli (addi (fptosi 32 e) (broadcast S 127#32)) (broadcast S 23#32))) (exp2 e)

theorem powers_apply {S : Shape} (e : FVec Ideal S .f32) (i : S.Idx) : powers e i = power (e i) := rfl

/-- The exponent as computed with its two corrections, entry by entry: over the extended reals they change nothing. -/
theorem corrected_word {S : Shape} (v : FVec Ideal S .f32) (i : S.Idx) :
    let one : FVec Ideal S .f32 := broadcast S (Scalar.ofBits .f32 0x3F800000#32)
    let zero : FVec Ideal S .f32 := broadcast S (Scalar.ofBits .f32 0x00000000#32)
    let x : FVec Ideal S .f32 := mulf v (broadcast S (Scalar.ofBits .f32 0x3B124925#32))
    let e : FVec Ideal S .f32 := addf (floor (divf (log x) (log (broadcast S (Scalar.ofBits .f32 0x40000000#32))))) one
    let e1 : FVec Ideal S .f32 := select (cmpf .olt x (powers (subf e one))) (subf e one) e
    let e2 : FVec Ideal S .f32 := select (cmpf .oge x (powers e1)) (addf e1 one) e1
    select (cmpf .oeq v zero) (broadcast S (0#32 : BitVec 32))
      (fptosi 32 (select (andi (cmpf .ogt x zero) (cmpf .olt x (broadcast S (Scalar.ofBits .f32 0x7F800000#32)))) e2 zero)) i
      = expo (v i) := by
  intro one zero x e e1 e2
  have h := select_corrected (ratio (v i)) (Ideal.ofBits .f32 0x00000000#32)
  exact congrArg (fun y => Scalar.select (Ideal.cmp .oeq (v i) (Ideal.ofBits .f32 0x00000000#32)) 0#32 (Ideal.fptosi 32 y)) h

/-- One times the powers of two of an array of words. -/
theorem scale_word {S : Shape} (w : IVec S 32) (i : S.Idx) :
    mulf (F := Ideal) (broadcast S (Scalar.ofBits .f32 0x3F800000#32)) (powers (sitofp .f32 w)) i = twoTo (w i) := by
  show Ideal.ofBits .f32 0x3F800000#32 * power ((((w i).toInt : ℝ)) : EReal) = _
  rw [power_word, ofBits_one, EReal.coe_one, one_mul]

end Cert.Spec

end
-- ==== Proof.Values.Gate.lean ====
/-
  What the first call leaves in its two result arrays, over the extended reals: the hidden activations, and per token
  128 partial maxima of their magnitudes, whose greatest is the greatest magnitude of the token's row.
-/
module

public import proofs.«01_k».proof.Proof.Ideal.Gate
public import proofs.«01_k».proof.Proof.Values.Layout

@[expose] public section

set_option maxRecDepth 16384

noncomputable section

namespace Cert.KernelIdeal.Whole

open Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The points and the blocks -/

theorem lt_N0 (t : Fin cfg0.N) : t.val < 128 := Nat.lt_of_lt_of_eq t.isLt N_0

/-- The token in row `r` of point `t`'s row block. -/
def row0 (t : Fin cfg0.N) (r : Fin 2048) : Fin 8192 :=
  ⟨2048 * (t.val / 32) + r.val, by have := lt_N0 t; have := r.isLt; omega⟩

/-- The hidden unit in column `f` of point `t`'s column block. -/
def unit0 (t : Fin cfg0.N) (f : Fin 256) : Fin 8192 :=
  ⟨256 * (t.val % 32) + f.val, by have := f.isLt; omega⟩

theorem index0_0 : ∀ t : Fin cfg0.N, win0_0.index t 0 = t.val / 32 ∧ win0_0.index t 1 = 0 :=
  (by decide +kernel : ∀ t : Fin grid0.N, win0_0.index t 0 = t.val / 32 ∧ win0_0.index t 1 = 0)
theorem index0_1 : ∀ t : Fin cfg0.N, win0_1.index t 0 = 0 ∧ win0_1.index t 1 = t.val % 32 :=
  (by decide +kernel : ∀ t : Fin grid0.N, win0_1.index t 0 = 0 ∧ win0_1.index t 1 = t.val % 32)
theorem index0_2 : ∀ t : Fin cfg0.N, win0_2.index t 0 = 0 ∧ win0_2.index t 1 = 32 + t.val % 32 :=
  (by decide +kernel : ∀ t : Fin grid0.N, win0_2.index t 0 = 0 ∧ win0_2.index t 1 = 32 + t.val % 32)
theorem index0_3 : ∀ t : Fin cfg0.N, win0_3.index t 0 = t.val / 32 ∧ win0_3.index t 1 = t.val % 32 :=
  (by decide +kernel : ∀ t : Fin grid0.N, win0_3.index t 0 = t.val / 32 ∧ win0_3.index t 1 = t.val % 32)
theorem index0_4 : ∀ t : Fin cfg0.N, win0_4.index t 0 = t.val / 32 ∧ win0_4.index t 1 = 0 :=
  (by decide +kernel : ∀ t : Fin grid0.N, win0_4.index t 0 = t.val / 32 ∧ win0_4.index t 1 = 0)

/-- The rows, and the matrix of both projections, as the call finds them. -/
abbrev rowsIn (c : Dev nD) : Cert.Spec.Mat 8192 4096 := V c main_v1
abbrev weightsIn (c : Dev nD) : Cert.Spec.Mat 4096 16384 := V c main_arg1

/-- Point `t`'s three blocks: of the rows, of the gate's columns, of the up projection's columns. -/
abbrev rowBlk (c : Dev nD) (t : Fin cfg0.N) : Cert.Spec.Mat 2048 4096 := iblk0 V c 0 t
abbrev gateBlk (c : Dev nD) (t : Fin cfg0.N) : Cert.Spec.Mat 4096 256 := iblk0 V c 1 t
abbrev upBlk (c : Dev nD) (t : Fin cfg0.N) : Cert.Spec.Mat 4096 256 := iblk0 V c 2 t

/-- The block of rows. -/
theorem iblk0_0_apply (c : Dev nD) (t : Fin cfg0.N) (r : Fin 2048) (k : Fin 4096) :
    (iblk0 V c 0 t : Vec Ideal S2048x4096 .bf16) (ix2 r k) = rowsIn V c (ix2 (row0 t r) k) := by
  unfold iblk0
  rw [View.read_apply]
  refine congrArg (V c main_v1) ?_
  funext a
  apply Fin.ext
  match a with
  | ⟨0, _⟩ => show win0_0.index t 0 * 2048 + 1 * r.val = 2048 * (t.val / 32) + r.val; rw [(index0_0 t).1]; omega
  | ⟨1, _⟩ => show win0_0.index t 1 * 4096 + 1 * k.val = k.val; rw [(index0_0 t).2]; omega

/-- The gate's block of columns. -/
theorem iblk0_1_apply (c : Dev nD) (t : Fin cfg0.N) (k : Fin 4096) (f : Fin 256) :
    (iblk0 V c 1 t : Vec Ideal S4096x256 .f32) (ix2 k f) = weightsIn V c (ix2 k (Cert.Spec.gateCol (unit0 t f))) := by
  unfold iblk0
  rw [View.read_apply]
  refine congrArg (V c main_arg1) ?_
  funext a
  apply Fin.ext
  match a with
  | ⟨0, _⟩ => show win0_1.index t 0 * 4096 + 1 * k.val = k.val; rw [(index0_1 t).1]; omega
  | ⟨1, _⟩ => show win0_1.index t 1 * 256 + 1 * f.val = 256 * (t.val % 32) + f.val; rw [(index0_1 t).2]; omega

/-- The up projection's block of columns. -/
theorem iblk0_2_apply (c : Dev nD) (t : Fin cfg0.N) (k : Fin 4096) (f : Fin 256) :
    (iblk0 V c 2 t : Vec Ideal S4096x256 .f32) (ix2 k f) = weightsIn V c (ix2 k (Cert.Spec.upCol (unit0 t f))) := by
  unfold iblk0
  rw [View.read_apply]
  refine congrArg (V c main_arg1) ?_
  funext a
  apply Fin.ext
  match a with
  | ⟨0, _⟩ => show win0_2.index t 0 * 4096 + 1 * k.val = k.val; rw [(index0_2 t).1]; omega
  | ⟨1, _⟩ => show win0_2.index t 1 * 256 + 1 * f.val = 8192 + (256 * (t.val % 32) + f.val); rw [(index0_2 t).2]; omega

/-! ## The hidden activations -/

/-- Token `r`'s hidden activations. -/
def hidIn (c : Dev nD) (r : Fin 8192) : Fin 8192 → EReal := Cert.Spec.hid (rowsIn V c) (weightsIn V c) r

/-- What the body computes from its three blocks. -/
theorem k0_pay1_apply (x : Vec Ideal S2048x4096 .bf16) (wg wu : Vec Ideal S4096x256 .f32) (r : Fin 2048) (f : Fin 256) :
    k0_pay1 (F := Ideal) x wg wu (ix2 r f)
      = (∑ k : Fin 4096, x (ix2 r k) * wg (ix2 k f)) * Ideal.logistic (∑ k : Fin 4096, x (ix2 r k) * wg (ix2 k f))
        * ∑ k : Fin 4096, x (ix2 r k) * wu (ix2 k f) := by
  have e : ∀ w : Vec Ideal S4096x256 .f32, matmul (F := Ideal) dot_S2048x4096_S4096x256_S2048x256_1_0_0_1_n_n none x
      (truncf .bf16 w bitsLt_bf16_f32) (constant S2048x256 .f32 0x00000000#32) (ix2 r f) = ∑ k : Fin 4096, x (ix2 r k) * w (ix2 k f) :=
    fun w => Cert.Spec.product_apply (φ₁ := .bf16) (φ₂ := .bf16) x (truncf (F := Ideal) .bf16 w bitsLt_bf16_f32) r f
  unfold k0_pay1
  rw [shapeCast_self]
  exact congrArg₂ (· * ·) (congrArg₂ (· * ·) (e wg) (congrArg Ideal.logistic (e wg))) (e wu)

/-- The block of hidden activations the body computes at point `t`. -/
theorem hidden_block (c : Dev nD) (t : Fin cfg0.N) (r : Fin 2048) (f : Fin 256) :
    k0_pay1 (F := Ideal) (iblk0 V c 0 t) (iblk0 V c 1 t) (iblk0 V c 2 t) (ix2 r f) = hidIn V c (row0 t r) (unit0 t f) := by
  have eg : (∑ k : Fin 4096, rowBlk V c t (ix2 r k) * gateBlk V c t (ix2 k f))
      = Cert.Spec.proj (rowsIn V c) (weightsIn V c) (row0 t r) (Cert.Spec.gateCol (unit0 t f)) :=
    Finset.sum_congr rfl fun k _ => congrArg₂ (· * ·) (iblk0_0_apply V c t r k) (iblk0_1_apply V c t k f)
  have eu : (∑ k : Fin 4096, rowBlk V c t (ix2 r k) * upBlk V c t (ix2 k f))
      = Cert.Spec.proj (rowsIn V c) (weightsIn V c) (row0 t r) (Cert.Spec.upCol (unit0 t f)) :=
    Finset.sum_congr rfl fun k _ => congrArg₂ (· * ·) (iblk0_0_apply V c t r k) (iblk0_2_apply V c t k f)
  exact (k0_pay1_apply (iblk0 V c 0 t) (iblk0 V c 1 t) (iblk0 V c 2 t) r f).trans
    (congrArg₂ (· * ·) (congrArg₂ (· * ·) eg (congrArg Ideal.logistic eg)) eu)

/-- The array of hidden activations. -/
def hiddenArr (c : Dev nD) : Buf (Elt Ideal) ((c : Thread nD τ).loc main_v2_0) :=
  (fun i => hidIn V c (i 0) (i 1) : Vec Ideal S8192x8192 .f32)

theorem hidden_flushed (c : Dev nD) (t : Fin cfg0.N) (_ : (cfg0.win 3).flush t = true) :
    (dat0 V c).flushed 3 t = ((cfg0.win 3).blk t).view.read (Elt Ideal) (hiddenArr V c) := by
  show (cfg0.win 3).cut (grid0.coords t) ((dat0 V c).after 3 t) = _
  rw [after0_3]
  funext j
  rw [View.read_apply]
  refine (congrArg (k0_pay1 (F := Ideal) (iblk0 V c 0 t) (iblk0 V c 1 t) (iblk0 V c 2 t)) (eq_ix2 (n0 := 2048) (n1 := 256) j)).trans ?_
  refine (hidden_block V c t (j 0) (j 1)).trans ?_
  show hidIn V c _ _ = hidIn V c _ _
  congr 1
  · congr 1
    apply Fin.ext
    show 2048 * (t.val / 32) + (j 0).val = win0_3.index t 0 * 2048 + 1 * (j 0).val
    rw [(index0_3 t).1]; omega
  · apply Fin.ext
    show 256 * (t.val % 32) + (j 1).val = win0_3.index t 1 * 256 + 1 * (j 1).val
    rw [(index0_3 t).2]; omega

/-- The first result array ends holding the hidden activations. -/
theorem hidden_final (c : Dev nD) : (dat0 V c).arrAt 3 cfg0.N = hiddenArr V c :=
  (dat0 V c).arrAt_eq_of_cover 3 (hiddenArr V c) (hidden_flushed V c) fun i => by
    have h0 : (i 0 : Nat) < 8192 := (i 0).isLt
    have h1 : (i 1 : Nat) < 8192 := (i 1).isLt
    obtain ⟨t, ht⟩ : ∃ t : Fin cfg0.N, t.val = 32 * ((i 0 : Nat) / 2048) + (i 1 : Nat) / 256 :=
      ⟨⟨_, Nat.lt_of_lt_of_eq (by omega) N_0.symm⟩, rfl⟩
    refine ⟨t, flush0_3 t, ?_⟩
    show i ∈ ((View.whole main_v2_0).slice (win0_3.rect t)).set
    rw [View.set_slice_whole, Rect.mem_set_unit]
    intro a
    match a with
    | ⟨0, _⟩ =>
      show win0_3.index t 0 * 2048 ≤ (i 0 : Nat) ∧ (i 0 : Nat) < win0_3.index t 0 * 2048 + 2048
      rw [(index0_3 t).1]; omega
    | ⟨1, _⟩ =>
      show win0_3.index t 1 * 256 ≤ (i 1 : Nat) ∧ (i 1 : Nat) < win0_3.index t 1 * 256 + 256
      rw [(index0_3 t).2]; omega

/-! ## The partial maxima -/

/-- The hidden unit of lane `l` in half `b` of column block `j`. -/
def laneUnit (l : Fin 128) (j : Fin 32) (b : Fin 2) : Fin 8192 :=
  ⟨256 * j.val + (128 * b.val + l.val), by have := l.isLt; have := j.isLt; have := b.isLt; omega⟩

/-- The maximum, per lane, of the magnitudes of the two halves of a block. -/
theorem k0_pay2_apply (x : Vec Ideal S2048x4096 .bf16) (wg wu : Vec Ideal S4096x256 .f32) (r : Fin 2048) (l : Fin 128) :
    k0_pay2 (F := Ideal) x wg wu (ix2 r l)
      = max (Cert.Spec.mag (k0_pay1 x wg wu (ix2 r ⟨l.val, by have := l.isLt; omega⟩)))
          (Cert.Spec.mag (k0_pay1 x wg wu (ix2 r ⟨128 + l.val, by have := l.isLt; omega⟩))) := by
  have e0 := slice2_axis1_apply 0 (absf (F := Ideal) (k0_pay1 x wg wu)) slices_S2048x256_o0_0_S2048x128 r l
    ⟨l.val, by have := l.isLt; omega⟩ (Nat.zero_add _).symm
  have e1 := slice2_axis1_apply 128 (absf (F := Ideal) (k0_pay1 x wg wu)) slices_S2048x256_o0_128_S2048x128 r l
    ⟨128 + l.val, by have := l.isLt; omega⟩ rfl
  exact congrArg₂ max e0 e1

/-- What point `t` contributes to lane `l` of row `r`. -/
theorem lane_block (c : Dev nD) (t : Fin cfg0.N) (r : Fin 2048) (l : Fin 128) :
    k0_pay2 (F := Ideal) (iblk0 V c 0 t) (iblk0 V c 1 t) (iblk0 V c 2 t) (ix2 r l)
      = max (Cert.Spec.mag (hidIn V c (row0 t r) (laneUnit l ⟨t.val % 32, Nat.mod_lt _ (by decide)⟩ 0)))
          (Cert.Spec.mag (hidIn V c (row0 t r) (laneUnit l ⟨t.val % 32, Nat.mod_lt _ (by decide)⟩ 1))) := by
  refine (k0_pay2_apply (iblk0 V c 0 t) (iblk0 V c 1 t) (iblk0 V c 2 t) r l).trans ?_
  rw [hidden_block, hidden_block]
  have u0 : unit0 t ⟨l.val, by have := l.isLt; omega⟩ = laneUnit l ⟨t.val % 32, Nat.mod_lt _ (by decide)⟩ 0 :=
    Fin.ext (show 256 * (t.val % 32) + l.val = 256 * (t.val % 32) + (128 * 0 + l.val) by omega)
  have u1 : unit0 t ⟨128 + l.val, by have := l.isLt; omega⟩ = laneUnit l ⟨t.val % 32, Nat.mod_lt _ (by decide)⟩ 1 :=
    Fin.ext (show 256 * (t.val % 32) + (128 + l.val) = 256 * (t.val % 32) + (128 * 1 + l.val) by omega)
  rw [u0, u1]

/-- The bounds of the running maximum after point `t`: the bounds of every magnitude met in the row block so far. -/
theorem amaxAt_le_iff (c : Dev nD) (r : Fin 2048) (l : Fin 128) (x : EReal) : ∀ (n : ℕ) (h : n < cfg0.N),
    (amaxAt V c n h : Vec Ideal S2048x128 .f32) (ix2 r l) ≤ x
      ↔ ∀ (j : Fin 32) (b : Fin 2), j.val ≤ n % 32 → Cert.Spec.mag (hidIn V c (row0 ⟨n, h⟩ r) (laneUnit l j b)) ≤ x := by
  intro n
  induction n with
  | zero =>
    intro h
    show k0_pay2 (F := Ideal) (iblk0 V c 0 ⟨0, h⟩) (iblk0 V c 1 ⟨0, h⟩) (iblk0 V c 2 ⟨0, h⟩) (ix2 r l) ≤ x ↔ _
    rw [lane_block, max_le_iff]
    constructor
    · rintro ⟨h0, h1⟩ j b hj
      obtain rfl : j = ⟨0 % 32, Nat.mod_lt _ (by decide)⟩ := Fin.ext (by simpa using hj)
      match b with
      | 0 => exact h0
      | 1 => exact h1
    · intro H
      exact ⟨H _ 0 (Nat.le_refl _), H _ 1 (Nat.le_refl _)⟩
  | succ n ih =>
    intro h
    by_cases h0 : (n + 1) % 32 = 0
    · have e := amaxAt_A V c ⟨n + 1, h⟩ h0
      rw [show amaxAt V c (n + 1) h = _ from e, lane_block, max_le_iff]
      constructor
      · rintro ⟨g0, g1⟩ j b hj
        obtain rfl : j = ⟨(n + 1) % 32, Nat.mod_lt _ (by decide)⟩ := Fin.ext (by show j.val = (n + 1) % 32; omega)
        match b with
        | 0 => exact g0
        | 1 => exact g1
      · intro H
        exact ⟨H _ 0 (Nat.le_refl _), H _ 1 (Nat.le_refl _)⟩
    · have e := amaxAt_B V c ⟨n + 1, h⟩ h0
      have e' : (amaxAt V c (n + 1) h : Vec Ideal S2048x128 .f32) (ix2 r l)
          = max ((amaxAt V c n (Nat.lt_of_succ_lt h) : Vec Ideal S2048x128 .f32) (ix2 r l))
              (k0_pay2 (F := Ideal) (iblk0 V c 0 ⟨n + 1, h⟩) (iblk0 V c 1 ⟨n + 1, h⟩) (iblk0 V c 2 ⟨n + 1, h⟩) (ix2 r l)) := by
        rw [show amaxAt V c (n + 1) h = _ from e]
        unfold k0_pay3
        dsimp only
        rw [shapeCast_self]
        rfl
      have hrow : row0 ⟨n, Nat.lt_of_succ_lt h⟩ r = row0 ⟨n + 1, h⟩ r :=
        Fin.ext (show 2048 * (n / 32) + r.val = 2048 * ((n + 1) / 32) + r.val by omega)
      rw [e', max_le_iff, ih, lane_block, max_le_iff, hrow]
      constructor
      · rintro ⟨g, g0, g1⟩ j b hj
        by_cases hj' : j.val ≤ n % 32
        · exact g j b hj'
        · obtain rfl : j = ⟨(n + 1) % 32, Nat.mod_lt _ (by decide)⟩ := Fin.ext (by show j.val = (n + 1) % 32; omega)
          match b with
          | 0 => exact g0
          | 1 => exact g1
      · intro H
        exact ⟨fun j b hj => H j b (by omega), H _ 0 (Nat.le_refl _), H _ 1 (Nat.le_refl _)⟩

/-- The partial maximum of row `r` in lane `l`. -/
def laneMax (c : Dev nD) (r : Fin 8192) (l : Fin 128) : EReal :=
  ⨆ j : Fin 32, ⨆ b : Fin 2, Cert.Spec.mag (hidIn V c r (laneUnit l j b))

/-- The greatest partial maximum of a row is its greatest magnitude: every hidden unit is in one lane. -/
theorem iSup_laneMax (c : Dev nD) (r : Fin 8192) : (⨆ l, laneMax V c r l) = Cert.Spec.rowMax (hidIn V c r) := by
  unfold laneMax Cert.Spec.rowMax
  refine eq_of_forall_ge_iff fun x => ?_
  simp only [iSup_le_iff]
  constructor
  · intro H f
    have hf := f.isLt
    have := H ⟨f.val % 128, by omega⟩ ⟨f.val / 256, by omega⟩ ⟨f.val % 256 / 128, by omega⟩
    rwa [show laneUnit ⟨f.val % 128, by omega⟩ ⟨f.val / 256, by omega⟩ ⟨f.val % 256 / 128, by omega⟩ = f from
      Fin.ext (show 256 * (f.val / 256) + (128 * (f.val % 256 / 128) + f.val % 128) = f.val by omega)] at this
  · intro H l j b
    exact H _

/-- The array of partial maxima. -/
def laneArr (c : Dev nD) : Buf (Elt Ideal) ((c : Thread nD τ).loc main_v2_1) :=
  (fun i => laneMax V c (i 0) (i 1) : Vec Ideal S8192x128 .f32)

/-- At a row block's last point the running maximum is the partial maximum. -/
theorem amaxAt_last (c : Dev nD) (t : Fin cfg0.N) (h : t.val % 32 = 31) (r : Fin 2048) (l : Fin 128) :
    (amaxAt V c t.val t.isLt : Vec Ideal S2048x128 .f32) (ix2 r l) = laneMax V c (row0 t r) l := by
  unfold laneMax
  refine eq_of_forall_ge_iff fun x => ?_
  rw [amaxAt_le_iff]
  simp only [iSup_le_iff]
  constructor
  · intro H j b
    exact H j b (by have := j.isLt; omega)
  · intro H j b _
    exact H j b

theorem lane_flushed (c : Dev nD) (t : Fin cfg0.N) (hf : (cfg0.win 4).flush t = true) :
    (dat0 V c).flushed 4 t = ((cfg0.win 4).blk t).view.read (Elt Ideal) (laneArr V c) := by
  show (cfg0.win 4).cut (grid0.coords t) ((dat0 V c).after 4 t) = _
  rw [after0_4]
  funext j
  rw [View.read_apply]
  refine (congrArg (amaxAt V c t.val t.isLt : Vec Ideal S2048x128 .f32) (eq_ix2 (n0 := 2048) (n1 := 128) j)).trans ?_
  refine (amaxAt_last V c t ((flush0_4 t).mp hf) (j 0) (j 1)).trans ?_
  show laneMax V c _ _ = laneMax V c _ _
  congr 1
  · apply Fin.ext
    show 2048 * (t.val / 32) + (j 0).val = win0_4.index t 0 * 2048 + 1 * (j 0).val
    rw [(index0_4 t).1]; omega
  · apply Fin.ext
    show (j 1).val = win0_4.index t 1 * 128 + 1 * (j 1).val
    rw [(index0_4 t).2]; omega

/-- The second result array ends holding the partial maxima. -/
theorem lane_final (c : Dev nD) : (dat0 V c).arrAt 4 cfg0.N = laneArr V c :=
  (dat0 V c).arrAt_eq_of_cover 4 (laneArr V c) (lane_flushed V c) fun i => by
    have h0 : (i 0 : Nat) < 8192 := (i 0).isLt
    have h1 : (i 1 : Nat) < 128 := (i 1).isLt
    obtain ⟨t, ht⟩ : ∃ t : Fin cfg0.N, t.val = 32 * ((i 0 : Nat) / 2048) + 31 :=
      ⟨⟨_, Nat.lt_of_lt_of_eq (by omega) N_0.symm⟩, rfl⟩
    refine ⟨t, (flush0_4 t).mpr (by omega), ?_⟩
    show i ∈ ((View.whole main_v2_1).slice (win0_4.rect t)).set
    rw [View.set_slice_whole, Rect.mem_set_unit]
    intro a
    match a with
    | ⟨0, _⟩ =>
      show win0_4.index t 0 * 2048 ≤ (i 0 : Nat) ∧ (i 0 : Nat) < win0_4.index t 0 * 2048 + 2048
      rw [(index0_4 t).1]; omega
    | ⟨1, _⟩ =>
      show win0_4.index t 1 * 128 ≤ (i 1 : Nat) ∧ (i 1 : Nat) < win0_4.index t 1 * 128 + 128
      rw [(index0_4 t).2]; omega

end Cert.KernelIdeal.Whole

end
-- ==== Proof.Values.Down.lean ====
/-
  What the second call leaves in its three result arrays, over the extended reals: the output rows, the codes and the
  scales of the hidden activations it is given, each row quantised by the greatest of the row's partial maxima.
-/
module

public import proofs.«01_k».proof.Proof.Ideal.Down
public import proofs.«01_k».proof.Proof.Values.Layout

@[expose] public section

set_option maxRecDepth 16384

noncomputable section

namespace Cert.KernelIdeal.Whole

open Cert.KernelIdeal.Gen Idealize.ShloMosaic Idealize.ShloMosaic.TcCoe Idealize.ShloMosaic.ValueIdx Idealize.SL.Sem
open Idealize.ShloMosaic.Pipeline (Dat)

/-! ## What one block computes -/

/-- The greatest of a row's partial maxima. -/
def top1 {n : ℕ} (x1 : Cert.Spec.Mat n 128) (r : Fin n) : EReal := ⨆ l : Fin 128, x1 (ix2 r l)

theorem top_apply (x1 : Vec Ideal S512x128 .f32) (r : Fin 512) (z : Fin 1) :
    shapeCast S512x1 (multiReduction (F := Ideal) .maximumf [1] S512 (shapeCast S512x128 x1 shapeCasts_S512x128_S512x128) 0xFF800000#32
      reduces_S512x128_S512 (.inl rfl) rfl) shapeCasts_S512_S512x1 (ix2 r z) = top1 x1 r := by
  refine (Cert.Spec.column_apply _ shapeCasts_S512_S512x1 r z).trans ?_
  rw [shapeCast_self]
  exact Cert.Spec.rowMaximum_apply x1 reduces_S512x128_S512 (.inl rfl) rfl r

/-- The exponents of a row block. -/
abbrev expoOf (x1 : Vec Ideal S512x128 .f32) : IVec S512x1 32 :=
  k1_pay10 (F := Ideal) (k1_pay4 x1) (k1_pay5 x1) (k1_pay6 x1) (k1_pay7 x1) (k1_pay8 x1) (k1_pay9 x1)

theorem expoOf_eq (x1 : Vec Ideal S512x128 .f32) : expoOf x1 = fun i => Cert.Spec.expo (k1_pay4 (F := Ideal) x1 i) := by
  unfold expoOf k1_pay10 k1_pay9 k1_pay8 k1_pay7 k1_pay6 k1_pay5
  funext i
  exact Cert.Spec.corrected_word (k1_pay4 (F := Ideal) x1) i

/-- The exponent of row `r`. -/
theorem expoOf_apply (x1 : Vec Ideal S512x128 .f32) (r : Fin 512) (z : Fin 1) :
    expoOf x1 (ix2 r z) = Cert.Spec.expo (top1 x1 r) := by
  refine (congrFun (expoOf_eq x1) (ix2 r z)).trans (congrArg Cert.Spec.expo ?_)
  unfold k1_pay4
  exact top_apply x1 r z

/-- The scale of row `r`. -/
theorem scaleOf_apply (x1 : Vec Ideal S512x128 .f32) (r : Fin 512) (z : Fin 1) :
    scaleOf (F := Ideal) x1 (ix2 r z) = Cert.Spec.scale (top1 x1 r) := by
  have h : scaleOf (F := Ideal) x1 (ix2 r z) = Cert.Spec.twoTo (expoOf x1 (ix2 r z)) := by
    unfold scaleOf k1_pay12 k1_pay11
    exact Cert.Spec.scale_word (expoOf x1) (ix2 r z)
  exact h.trans (congrArg Cert.Spec.twoTo (expoOf_apply x1 r z))

/-- The scale's inverse of row `r`. -/
theorem invOf_apply (x1 : Vec Ideal S512x128 .f32) (r : Fin 512) (z : Fin 1) :
    invOf (F := Ideal) x1 (ix2 r z) = Cert.Spec.scaleInv (top1 x1 r) := by
  have h : invOf (F := Ideal) x1 (ix2 r z) = Cert.Spec.twoTo (IntOp.subi 0#32 (expoOf x1 (ix2 r z))) := by
    unfold invOf negOf negBitsOf k1_pay15 k1_pay14 k1_pay13 k1_pay11
    exact Cert.Spec.scale_word (subi (broadcast S512x1 0#32) (expoOf x1)) (ix2 r z)
  exact h.trans (congrArg (fun e => Cert.Spec.twoTo (IntOp.subi 0#32 e)) (expoOf_apply x1 r z))

/-- One chunk of the codes. -/
theorem chunk_apply (x1 : Vec Ideal S512x128 .f32) (v : Vec Ideal S512x1024 .f32) (r : Fin 512) (f : Fin 1024) :
    k1_pay2 (F := Ideal) (invOf x1) v (ix2 r f) = Cert.Spec.code (top1 x1 r) (v (ix2 r f)) := by
  have hb := (Cert.Spec.spread_apply (b := 1024) (invOf (F := Ideal) x1) broadcasts_S512x1_S512x1024 r f).trans (invOf_apply x1 r 0)
  unfold k1_pay2
  rw [shapeCast_self]
  exact congrArg (fun y => min (Ideal.ofBits .f32 0x43E00000#32) (max (Ideal.ofBits .f32 0xC3E00000#32) (v (ix2 r f) * y))) hb

/-- The codes of a block, row by row. -/
def codesOn (x0 : Vec Ideal S512x8192 .f32) (x1 : Vec Ideal S512x128 .f32) : Vec Ideal S512x8192 .fp8e4m3 :=
  fun y => Cert.Spec.code (top1 x1 (y 0)) (x0 y)

/-- A chunk of the codes is those codes at its place. -/
theorem chunk_piece (x0 : Vec Ideal S512x8192 .f32) (x1 : Vec Ideal S512x128 .f32) (o : ℕ)
    (inb : ∀ a, (![0, o] : Fin 2 → ℕ) a + S512x1024.size a ≤ S512x8192.size a) (x : S512x1024.Idx) :
    k1_pay2 (F := Ideal) (invOf x1) (View.ld x0 (Rect.unit (s := S512x8192) ![0, o] S512x1024.size inb)) x
      = codesOn x0 x1 ((Rect.unit (s := S512x8192) ![0, o] S512x1024.size inb).emb x) := by
  refine (congrArg (k1_pay2 (F := Ideal) (invOf x1) _) (eq_ix2 (n0 := 512) (n1 := 1024) x)).trans ?_
  refine (chunk_apply x1 _ (x 0) (x 1)).trans ?_
  unfold codesOn
  refine congrArg₂ Cert.Spec.code (congrArg (top1 x1) ?_) ?_
  · apply Fin.ext
    show (x 0).val = 0 + 1 * (x 0).val
    omega
  · refine (congrArg (View.ld x0 (Rect.unit (s := S512x8192) ![0, o] S512x1024.size inb)) (eq_ix2 (n0 := 512) (n1 := 1024) x).symm).trans ?_
    rfl

/-- The eight chunks together. -/
theorem codesOf_eq (x0 : Vec Ideal S512x8192 .f32) (x1 : Vec Ideal S512x128 .f32) : codesOf (F := Ideal) x0 x1 = codesOn x0 x1 := by
  funext y
  unfold codesOf
  refine View.canon_apply_of_pieces (codesOn x0 x1) _ ?_ y (cover1_5 _ _ _ _ _ _ _ _ y)
  intro p hp
  simp only [List.mem_cons, List.not_mem_nil, or_false] at hp
  rcases hp with rfl | rfl | rfl | rfl | rfl | rfl | rfl | rfl
  · exact chunk_piece x0 x1 7168 inb_S512x8192_S512x1024_0_7168
  · exact chunk_piece x0 x1 6144 inb_S512x8192_S512x1024_0_6144
  · exact chunk_piece x0 x1 5120 inb_S512x8192_S512x1024_0_5120
  · exact chunk_piece x0 x1 4096 inb_S512x8192_S512x1024_0_4096
  · exact chunk_piece x0 x1 3072 inb_S512x8192_S512x1024_0_3072
  · exact chunk_piece x0 x1 2048 inb_S512x8192_S512x1024_0_2048
  · exact chunk_piece x0 x1 1024 inb_S512x8192_S512x1024_0_1024
  · exact chunk_piece x0 x1 0 inb_S512x8192_S512x1024_0_0

/-- The output block from the codes, the weights, the scales and the columns' scales. -/
theorem k1_pay3_apply (q : Vec Ideal S512x8192 .fp8e4m3) (w : Vec Ideal S8192x512 .fp8e4m3) (s : Vec Ideal S512x1 .f32) (ws : Vec Ideal S1x512 .f32)
    (r : Fin 512) (n : Fin 512) :
    k1_pay3 (F := Ideal) q w s ws (ix2 r n)
      = (∑ f : Fin 8192, (q (ix2 r f) : EReal) * (w (ix2 f n) : EReal)) * s (ix2 r (0 : Fin 1)) * ws (ix2 (0 : Fin 1) n) := by
  have e1 : matmul (F := Ideal) dot_S512x8192_S8192x512_S512x512_1_0_0_1_n_n none q w (constant S512x512 .f32 0x00000000#32) (ix2 r n)
      = ∑ f : Fin 8192, (q (ix2 r f) : EReal) * (w (ix2 f n) : EReal) :=
    Cert.Spec.product_apply (φ₁ := .fp8e4m3) (φ₂ := .fp8e4m3) q w r n
  have e2 := Cert.Spec.spread_apply (b := 512) s broadcasts_S512x1_S512x512 r n
  have e3 := broadcastTo_1b_ab_apply ws broadcasts_S1x512_S512x512 r n
  unfold k1_pay3
  rw [shapeCast_self, shapeCast_self, shapeCast_self]
  exact congrArg₂ (· * ·) (congrArg₂ (· * ·) e1 e2) e3

/-! ## The points and the blocks -/

variable (V : (c : Dev nD) → (b : Ref sig .tc) → Buf (Elt Ideal) ((c : Thread nD τ).loc b))

theorem lt_N1 (t : Fin cfg1.N) : t.val < 128 := Nat.lt_of_lt_of_eq t.isLt N_1

/-- The token in row `r` of point `t`'s row block. -/
def row1 (t : Fin cfg1.N) (r : Fin 512) : Fin 8192 :=
  ⟨512 * (t.val / 8) + r.val, by have := lt_N1 t; have := r.isLt; omega⟩

/-- The output column in column `n` of point `t`'s column block. -/
def col1 (t : Fin cfg1.N) (n : Fin 512) : Fin 4096 :=
  ⟨512 * (t.val % 8) + n.val, by have := n.isLt; omega⟩

theorem index1_0 : ∀ t : Fin cfg1.N, win1_0.index t 0 = t.val / 8 ∧ win1_0.index t 1 = 0 :=
  (by decide +kernel : ∀ t : Fin grid1.N, win1_0.index t 0 = t.val / 8 ∧ win1_0.index t 1 = 0)
theorem index1_1 : ∀ t : Fin cfg1.N, win1_1.index t 0 = t.val / 8 ∧ win1_1.index t 1 = 0 :=
  (by decide +kernel : ∀ t : Fin grid1.N, win1_1.index t 0 = t.val / 8 ∧ win1_1.index t 1 = 0)
theorem index1_2 : ∀ t : Fin cfg1.N, win1_2.index t 0 = 0 ∧ win1_2.index t 1 = t.val % 8 :=
  (by decide +kernel : ∀ t : Fin grid1.N, win1_2.index t 0 = 0 ∧ win1_2.index t 1 = t.val % 8)
theorem index1_3 : ∀ t : Fin cfg1.N, win1_3.index t 0 = 0 ∧ win1_3.index t 1 = t.val % 8 :=
  (by decide +kernel : ∀ t : Fin grid1.N, win1_3.index t 0 = 0 ∧ win1_3.index t 1 = t.val % 8)
theorem index1_4 : ∀ t : Fin cfg1.N, win1_4.index t 0 = t.val / 8 ∧ win1_4.index t 1 = t.val % 8 :=
  (by decide +kernel : ∀ t : Fin grid1.N, win1_4.index t 0 = t.val / 8 ∧ win1_4.index t 1 = t.val % 8)
theorem index1_5 : ∀ t : Fin cfg1.N, win1_5.index t 0 = t.val / 8 ∧ win1_5.index t 1 = 0 :=
  (by decide +kernel : ∀ t : Fin grid1.N, win1_5.index t 0 = t.val / 8 ∧ win1_5.index t 1 = 0)
theorem index1_6 : ∀ t : Fin cfg1.N, win1_6.index t 0 = t.val / 8 ∧ win1_6.index t 1 = 0 :=
  (by decide +kernel : ∀ t : Fin grid1.N, win1_6.index t 0 = t.val / 8 ∧ win1_6.index t 1 = 0)

/-- The call's four operands: hidden activations, partial maxima, weights, the weights' column scales. -/
abbrev actsIn (c : Dev nD) : Cert.Spec.Mat 8192 8192 := V c main_v2_0
abbrev lanesIn (c : Dev nD) : Cert.Spec.Mat 8192 128 := V c main_v2_1
abbrev downIn (c : Dev nD) : Cert.Spec.Mat 8192 4096 := V c main_arg2
abbrev colScaleIn (c : Dev nD) : Cert.Spec.Mat 1 4096 := V c main_v3

/-- Point `t`'s four blocks. -/
abbrev actsBlk (c : Dev nD) (t : Fin cfg1.N) : Cert.Spec.Mat 512 8192 := iblk1 V c 0 t
abbrev lanesBlk (c : Dev nD) (t : Fin cfg1.N) : Cert.Spec.Mat 512 128 := iblk1 V c 1 t
abbrev downBlk (c : Dev nD) (t : Fin cfg1.N) : Cert.Spec.Mat 8192 512 := iblk1 V c 2 t
abbrev colScaleBlk (c : Dev nD) (t : Fin cfg1.N) : Cert.Spec.Mat 1 512 := iblk1 V c 3 t

theorem actsBlk_apply (c : Dev nD) (t : Fin cfg1.N) (r : Fin 512) (f : Fin 8192) :
    actsBlk V c t (ix2 r f) = actsIn V c (ix2 (row1 t r) f) := by
  unfold actsBlk iblk1
  rw [View.read_apply]
  refine congrArg (V c main_v2_0) ?_
  funext a
  apply Fin.ext
  match a with
  | ⟨0, _⟩ => show win1_0.index t 0 * 512 + 1 * r.val = 512 * (t.val / 8) + r.val; rw [(index1_0 t).1]; omega
  | ⟨1, _⟩ => show win1_0.index t 1 * 8192 + 1 * f.val = f.val; rw [(index1_0 t).2]; omega

theorem lanesBlk_apply (c : Dev nD) (t : Fin cfg1.N) (r : Fin 512) (l : Fin 128) :
    lanesBlk V c t (ix2 r l) = lanesIn V c (ix2 (row1 t r) l) := by
  unfold lanesBlk iblk1
  rw [View.read_apply]
  refine congrArg (V c main_v2_1) ?_
  funext a
  apply Fin.ext
  match a with
  | ⟨0, _⟩ => show win1_1.index t 0 * 512 + 1 * r.val = 512 * (t.val / 8) + r.val; rw [(index1_1 t).1]; omega
  | ⟨1, _⟩ => show win1_1.index t 1 * 128 + 1 * l.val = l.val; rw [(index1_1 t).2]; omega

theorem downBlk_apply (c : Dev nD) (t : Fin cfg1.N) (f : Fin 8192) (n : Fin 512) :
    downBlk V c t (ix2 f n) = downIn V c (ix2 f (col1 t n)) := by
  unfold downBlk iblk1
  rw [View.read_apply]
  refine congrArg (V c main_arg2) ?_
  funext a
  apply Fin.ext
  match a with
  | ⟨0, _⟩ => show win1_2.index t 0 * 8192 + 1 * f.val = f.val; rw [(index1_2 t).1]; omega
  | ⟨1, _⟩ => show win1_2.index t 1 * 512 + 1 * n.val = 512 * (t.val % 8) + n.val; rw [(index1_2 t).2]; omega

theorem colScaleBlk_apply (c : Dev nD) (t : Fin cfg1.N) (z : Fin 1) (n : Fin 512) :
    colScaleBlk V c t (ix2 z n) = colScaleIn V c (ix2 z (col1 t n)) := by
  unfold colScaleBlk iblk1
  rw [View.read_apply]
  refine congrArg (V c main_v3) ?_
  funext a
  apply Fin.ext
  match a with
  | ⟨0, _⟩ => show win1_3.index t 0 * 1 + 1 * z.val = z.val; rw [(index1_3 t).1]; omega
  | ⟨1, _⟩ => show win1_3.index t 1 * 512 + 1 * n.val = 512 * (t.val % 8) + n.val; rw [(index1_3 t).2]; omega

/-- The greatest partial maximum of a block's row is that of its token. -/
theorem top1_blk (c : Dev nD) (t : Fin cfg1.N) (r : Fin 512) : top1 (lanesBlk V c t) r = top1 (lanesIn V c) (row1 t r) :=
  iSup_congr fun l => lanesBlk_apply V c t r l

/-! ## What the codes' and the scales' buffers hold after each point: their row block's -/

theorem row1_prev (n : ℕ) (h : n + 1 < cfg1.N) (h0 : ¬ (n + 1) % 8 = 0) (r : Fin 512) :
    row1 ⟨n, Nat.lt_of_succ_lt h⟩ r = row1 ⟨n + 1, h⟩ r :=
  Fin.ext (show 512 * (n / 8) + r.val = 512 * ((n + 1) / 8) + r.val by omega)

theorem codesOf_blk (c : Dev nD) (t : Fin cfg1.N) (r : Fin 512) (f : Fin 8192) :
    codesOf (F := Ideal) (iblk1 V c 0 t) (iblk1 V c 1 t) (ix2 r f)
      = Cert.Spec.code (top1 (lanesIn V c) (row1 t r)) (actsIn V c (ix2 (row1 t r) f)) :=
  (congrFun (codesOf_eq (iblk1 V c 0 t) (iblk1 V c 1 t)) (ix2 r f)).trans
    (congrArg₂ Cert.Spec.code (top1_blk V c t r) (actsBlk_apply V c t r f))

theorem codesAt_apply (c : Dev nD) (r : Fin 512) (f : Fin 8192) : ∀ (n : ℕ) (h : n < cfg1.N),
    (codesAt V c n h : Vec Ideal S512x8192 .fp8e4m3) (ix2 r f)
      = Cert.Spec.code (top1 (lanesIn V c) (row1 ⟨n, h⟩ r)) (actsIn V c (ix2 (row1 ⟨n, h⟩ r) f)) := by
  intro n
  induction n with
  | zero => exact fun h => codesOf_blk V c ⟨0, h⟩ r f
  | succ n ih =>
    intro h
    by_cases h0 : (n + 1) % 8 = 0
    · exact (congrFun (codesAt_A V c ⟨n + 1, h⟩ h0) (ix2 r f)).trans (codesOf_blk V c ⟨n + 1, h⟩ r f)
    · refine (congrFun (codesAt_B V c ⟨n + 1, h⟩ h0) (ix2 r f)).trans ((ih (Nat.lt_of_succ_lt h)).trans ?_)
      rw [row1_prev n h h0]

theorem scale_blk (c : Dev nD) (t : Fin cfg1.N) (r : Fin 512) (z : Fin 1) :
    scaleOf (F := Ideal) (iblk1 V c 1 t) (ix2 r z) = Cert.Spec.scale (top1 (lanesIn V c) (row1 t r)) :=
  (scaleOf_apply (iblk1 V c 1 t) r z).trans (congrArg Cert.Spec.scale (top1_blk V c t r))

theorem scaleAt_apply (c : Dev nD) (r : Fin 512) (z : Fin 1) : ∀ (n : ℕ) (h : n < cfg1.N),
    (scaleAt V c n h : Vec Ideal S512x1 .f32) (ix2 r z) = Cert.Spec.scale (top1 (lanesIn V c) (row1 ⟨n, h⟩ r)) := by
  intro n
  induction n with
  | zero => exact fun h => scale_blk V c ⟨0, h⟩ r z
  | succ n ih =>
    intro h
    by_cases h0 : (n + 1) % 8 = 0
    · exact (congrFun (scaleAt_A V c ⟨n + 1, h⟩ h0) (ix2 r z)).trans (scale_blk V c ⟨n + 1, h⟩ r z)
    · refine (congrFun (scaleAt_B V c ⟨n + 1, h⟩ h0) (ix2 r z)).trans ((ih (Nat.lt_of_succ_lt h)).trans ?_)
      rw [row1_prev n h h0]

/-! ## The three result arrays -/

/-- One entry of the output. -/
def outIn (c : Dev nD) (r : Fin 8192) (n : Fin 4096) : EReal :=
  (∑ f : Fin 8192, Cert.Spec.code (top1 (lanesIn V c) r) (actsIn V c (ix2 r f)) * downIn V c (ix2 f n))
    * Cert.Spec.scale (top1 (lanesIn V c) r) * colScaleIn V c (ix2 (0 : Fin 1) n)

/-- The output block the body computes at point `t`. -/
theorem out_block (c : Dev nD) (t : Fin cfg1.N) (r n : Fin 512) :
    k1_pay3 (F := Ideal) (codesAt V c t.val t.isLt) (iblk1 V c 2 t) (scaleAt V c t.val t.isLt) (iblk1 V c 3 t) (ix2 r n)
      = outIn V c (row1 t r) (col1 t n) := by
  refine (k1_pay3_apply (codesAt V c t.val t.isLt) (iblk1 V c 2 t) (scaleAt V c t.val t.isLt) (iblk1 V c 3 t) r n).trans ?_
  exact congrArg₂ (· * ·) (congrArg₂ (· * ·)
    (Finset.sum_congr rfl fun f _ => congrArg₂ (· * ·) (codesAt_apply V c r f t.val t.isLt) (downBlk_apply V c t f n))
    (scaleAt_apply V c r 0 t.val t.isLt)) (colScaleBlk_apply V c t 0 n)

/-- The output, the codes and the scales as arrays. -/
def outArr (c : Dev nD) : Buf (Elt Ideal) ((c : Thread nD τ).loc main_v4_0) :=
  (fun i => outIn V c (i 0) (i 1) : Vec Ideal S8192x4096 .f32)
def codeArr (c : Dev nD) : Buf (Elt Ideal) ((c : Thread nD τ).loc main_v4_1) :=
  (fun i => Cert.Spec.code (top1 (lanesIn V c) (i 0)) (actsIn V c (ix2 (i 0) (i 1))) : Vec Ideal S8192x8192 .fp8e4m3)
def scaleArr (c : Dev nD) : Buf (Elt Ideal) ((c : Thread nD τ).loc main_v4_2) :=
  (fun i => Cert.Spec.scale (top1 (lanesIn V c) (i 0)) : Vec Ideal S8192x1 .f32)

theorem out_flushed (c : Dev nD) (t : Fin cfg1.N) (_ : (cfg1.win 4).flush t = true) :
    (dat1 V c).flushed 4 t = ((cfg1.win 4).blk t).view.read (Elt Ideal) (outArr V c) := by
  show (cfg1.win 4).cut (grid1.coords t) ((dat1 V c).after 4 t) = _
  rw [after1_4]
  funext j
  rw [View.read_apply]
  refine (congrArg (k1_pay3 (F := Ideal) (codesAt V c t.val t.isLt) (iblk1 V c 2 t) (scaleAt V c t.val t.isLt) (iblk1 V c 3 t))
    (eq_ix2 (n0 := 512) (n1 := 512) j)).trans ?_
  refine (out_block V c t (j 0) (j 1)).trans ?_
  show outIn V c _ _ = outIn V c _ _
  congr 1
  · apply Fin.ext
    show 512 * (t.val / 8) + (j 0).val = win1_4.index t 0 * 512 + 1 * (j 0).val
    rw [(index1_4 t).1]; omega
  · apply Fin.ext
    show 512 * (t.val % 8) + (j 1).val = win1_4.index t 1 * 512 + 1 * (j 1).val
    rw [(index1_4 t).2]; omega

theorem code_flushed (c : Dev nD) (t : Fin cfg1.N) (_ : (cfg1.win 5).flush t = true) :
    (dat1 V c).flushed 5 t = ((cfg1.win 5).blk t).view.read (Elt Ideal) (codeArr V c) := by
  show (cfg1.win 5).cut (grid1.coords t) ((dat1 V c).after 5 t) = _
  rw [after1_5]
  funext j
  rw [View.read_apply]
  refine (congrArg (codesAt V c t.val t.isLt : Vec Ideal S512x8192 .fp8e4m3) (eq_ix2 (n0 := 512) (n1 := 8192) j)).trans ?_
  refine (codesAt_apply V c (j 0) (j 1) t.val t.isLt).trans ?_
  have e0 : row1 t (j 0) = (((cfg1.win 5).blk t).view.emb j : S8192x8192.Idx) 0 := by
    apply Fin.ext
    show 512 * (t.val / 8) + (j 0).val = win1_5.index t 0 * 512 + 1 * (j 0).val
    rw [(index1_5 t).1]; omega
  have e1 : (j 1 : Fin 8192) = (((cfg1.win 5).blk t).view.emb j : S8192x8192.Idx) 1 := by
    apply Fin.ext
    show (j 1).val = win1_5.index t 1 * 8192 + 1 * (j 1).val
    rw [(index1_5 t).2]; omega
  exact congrArg₂ (fun r f => Cert.Spec.code (top1 (lanesIn V c) r) (actsIn V c (ix2 r f))) e0 e1

theorem scale_flushed (c : Dev nD) (t : Fin cfg1.N) (_ : (cfg1.win 6).flush t = true) :
    (dat1 V c).flushed 6 t = ((cfg1.win 6).blk t).view.read (Elt Ideal) (scaleArr V c) := by
  show (cfg1.win 6).cut (grid1.coords t) ((dat1 V c).after 6 t) = _
  rw [after1_6]
  funext j
  rw [View.read_apply]
  refine (congrArg (scaleAt V c t.val t.isLt : Vec Ideal S512x1 .f32) (eq_ix2 (n0 := 512) (n1 := 1) j)).trans ?_
  refine (scaleAt_apply V c (j 0) (j 1) t.val t.isLt).trans ?_
  have e0 : row1 t (j 0) = (((cfg1.win 6).blk t).view.emb j : S8192x1.Idx) 0 := by
    apply Fin.ext
    show 512 * (t.val / 8) + (j 0).val = win1_6.index t 0 * 512 + 1 * (j 0).val
    rw [(index1_6 t).1]; omega
  exact congrArg (fun r => Cert.Spec.scale (top1 (lanesIn V c) r)) e0

/-- The first result array ends holding the output rows. -/
theorem out_final (c : Dev nD) : (dat1 V c).arrAt 4 cfg1.N = outArr V c :=
  (dat1 V c).arrAt_eq_of_cover 4 (outArr V c) (out_flushed V c) fun i => by
    have h0 : (i 0 : Nat) < 8192 := (i 0).isLt
    have h1 : (i 1 : Nat) < 4096 := (i 1).isLt
    obtain ⟨t, ht⟩ : ∃ t : Fin cfg1.N, t.val = 8 * ((i 0 : Nat) / 512) + (i 1 : Nat) / 512 :=
      ⟨⟨_, Nat.lt_of_lt_of_eq (by omega) N_1.symm⟩, rfl⟩
    refine ⟨t, flush1_4 t, ?_⟩
    show i ∈ ((View.whole main_v4_0).slice (win1_4.rect t)).set
    rw [View.set_slice_whole, Rect.mem_set_unit]
    intro a
    match a with
    | ⟨0, _⟩ =>
      show win1_4.index t 0 * 512 ≤ (i 0 : Nat) ∧ (i 0 : Nat) < win1_4.index t 0 * 512 + 512
      rw [(index1_4 t).1]; omega
    | ⟨1, _⟩ =>
      show win1_4.index t 1 * 512 ≤ (i 1 : Nat) ∧ (i 1 : Nat) < win1_4.index t 1 * 512 + 512
      rw [(index1_4 t).2]; omega

/-- The second result array ends holding the codes. -/
theorem code_final (c : Dev nD) : (dat1 V c).arrAt 5 cfg1.N = codeArr V c :=
  (dat1 V c).arrAt_eq_of_cover 5 (codeArr V c) (code_flushed V c) fun i => by
    have h0 : (i 0 : Nat) < 8192 := (i 0).isLt
    have h1 : (i 1 : Nat) < 8192 := (i 1).isLt
    obtain ⟨t, ht⟩ : ∃ t : Fin cfg1.N, t.val = 8 * ((i 0 : Nat) / 512) + 7 :=
      ⟨⟨_, Nat.lt_of_lt_of_eq (by omega) N_1.symm⟩, rfl⟩
    refine ⟨t, (flush1_5 t).mpr (by omega), ?_⟩
    show i ∈ ((View.whole main_v4_1).slice (win1_5.rect t)).set
    rw [View.set_slice_whole, Rect.mem_set_unit]
    intro a
    match a with
    | ⟨0, _⟩ =>
      show win1_5.index t 0 * 512 ≤ (i 0 : Nat) ∧ (i 0 : Nat) < win1_5.index t 0 * 512 + 512
      rw [(index1_5 t).1]; omega
    | ⟨1, _⟩ =>
      show win1_5.index t 1 * 8192 ≤ (i 1 : Nat) ∧ (i 1 : Nat) < win1_5.index t 1 * 8192 + 8192
      rw [(index1_5 t).2]; omega

/-- The third result array ends holding the scales. -/
theorem scale_final (c : Dev nD) : (dat1 V c).arrAt 6 cfg1.N = scaleArr V c :=
  (dat1 V c).arrAt_eq_of_cover 6 (scaleArr V c) (scale_flushed V c) fun i => by
    have h0 : (i 0 : Nat) < 8192 := (i 0).isLt
    have h1 : (i 1 : Nat) < 1 := (i 1).isLt
    obtain ⟨t, ht⟩ : ∃ t : Fin cfg1.N, t.val = 8 * ((i 0 : Nat) / 512) + 7 :=
      ⟨⟨_, Nat.lt_of_lt_of_eq (by omega) N_1.symm⟩, rfl⟩
    refine ⟨t, (flush1_6 t).mpr (by omega), ?_⟩
    show i ∈ ((View.whole main_v4_2).slice (win1_6.rect t)).set
    rw [View.set_slice_whole, Rect.mem_set_unit]
    intro a
    match a with
    | ⟨0, _⟩ =>
      show win1_6.index t 0 * 512 ≤ (i 0 : Nat) ∧ (i 0 : Nat) < win1_6.index t 0 * 512 + 512
      rw [(index1_6 t).1]; omega
    | ⟨1, _⟩ =>
      show win1_6.index t 1 * 1 ≤ (i 1 : Nat) ∧ (i 1 : Nat) < win1_6.index t 1 * 1 + 1
      rw [(index1_6 t).2]; omega

end Cert.KernelIdeal.Whole

end
-- ==== Proof.Reference.Run.lean ====
/-
  The reference's run with its value: the one kernel call has one grid point and every window's block is its whole array,
  so each result array ends holding the body's payload of the argument arrays (`G4`, `G5`, `G6`), and the arguments end
  unchanged.
-/
module

public import proofs.«01_k».proof.Proof.Gen.ReferenceIdeal.Frame
public import Idealize.ShloMosaic.Lib.Pipeline.Value

@[expose] public section

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S4x2048x4096.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4x2048x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x2048x1.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x2048x4096.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 2048 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4096x16384.Idx) : ((cfg0.win 1).blk t).view.emb j = j := by
  obtain ⟨e0, e1⟩ := idx_zero1 t
  funext a; apply Fin.ext
  match a with
  | ⟨0, _⟩ => show win0_1.index t (0 : Fin 2) * 4096 + 1 * (j 0).val = (j 0).val; omega
  | ⟨1, _⟩ => show win0_1.index t (1 : Fin 2) * 16384 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S8192x4096.Idx) : ((cfg0.win 2).blk t).view.emb j = j := by
  obtain ⟨e0, e1⟩ := idx_zero2 t
  funext a; apply Fin.ext
  match a with
  | ⟨0, _⟩ => show win0_2.index t (0 : Fin 2) * 8192 + 1 * (j 0).val = (j 0).val; omega
  | ⟨1, _⟩ => show win0_2.index t (1 : Fin 2) * 4096 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S4096.Idx) : ((cfg0.win 3).blk t).view.emb j = j := by
  have e0 := idx_zero3 t
  funext a; apply Fin.ext
  match a with
  | ⟨0, _⟩ => show win0_3.index t (0 : Fin 1) * 4096 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x2048x4096.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 2048 + 1 * (j 1).val = (j 1).val; omega
  | ⟨2, _⟩ => show win0_4.index t (2 : Fin 3) * 4096 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x2048x8192.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 2048 + 1 * (j 1).val = (j 1).val; omega
  | ⟨2, _⟩ => show win0_5.index t (2 : Fin 3) * 8192 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x2048x1.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 2048 + 1 * (j 1).val = (j 1).val; omega
  | ⟨2, _⟩ => show win0_6.index t (2 : Fin 3) * 1 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S4x2048x4096 .f32) (a1 : Vec F S4096x16384 .f32) (a2 : Vec F S8192x4096 .fp8e4m3) (a3 : Vec F S4096 .f32) : Vec F S4x2048x4096 .f32 :=
  k0_pay2 (k0_pay9 a0 a1 a2 a3) (k0_pay10 a0 a1 a2 a3) (Scalar.ofBits .f32 0xC3E00000#32) a2 a3

/-- A load of the whole of a block reads the block, and the one store through the whole rectangle leaves its payload. -/
theorem out4_eq (a0 : Vec F S4x2048x4096 .f32) (a1 : Vec F S4096x16384 .f32) (a2 : Vec F S8192x4096 .fp8e4m3) (a3 : Vec F S4096 .f32) : out0_4 (F := F) a0 a1 a2 a3 = G4 a0 a1 a2 a3 := by
  unfold out0_4
  rw [View.canon_unit_zero hz4, View.ld_unit_zero (S := S8192x4096) hz2 _ a2, View.ld_unit_zero (S := S4096) hz3 _ a3]

/-- Cutting the point's block out of `X` and reading `X` through the block's view give the same. -/
theorem cut4_eq (t : Fin cfg0.N) (X : Vec F S4x2048x4096 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S4x2048x4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S4x2048x4096 .f32) (a1 : Vec F S4096x16384 .f32) (a2 : Vec F S8192x4096 .fp8e4m3) (a3 : Vec F S4096 .f32) : Vec F S4x2048x8192 .fp8e4m3 :=
  k0_pay3 (k0_pay10 a0 a1 a2 a3) (Scalar.ofBits .f32 0xC3E00000#32)

/-- The one store through the whole rectangle leaves its payload. -/
theorem out5_eq (a0 : Vec F S4x2048x4096 .f32) (a1 : Vec F S4096x16384 .f32) (a2 : Vec F S8192x4096 .fp8e4m3) (a3 : Vec F S4096 .f32) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S4x2048x8192 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S4x2048x8192.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S4x2048x4096 .f32) (a1 : Vec F S4096x16384 .f32) (a2 : Vec F S8192x4096 .fp8e4m3) (a3 : Vec F S4096 .f32) : Vec F S4x2048x1 .f32 :=
  k0_pay4 (k0_pay9 a0 a1 a2 a3)

/-- The one store through the whole rectangle leaves its payload. -/
theorem out6_eq (a0 : Vec F S4x2048x4096 .f32) (a1 : Vec F S4096x16384 .f32) (a2 : Vec F S8192x4096 .fp8e4m3) (a3 : Vec F S4096 .f32) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S4x2048x1 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S4x2048x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.ReferenceIdeal.Whole

end
-- ==== Proof.Reference.Values.lean ====
/-
  What the reference's result arrays hold, entry by entry: the mathematics of `Spec.lean` at the argument arrays.
-/
module

public import proofs.«01_k».proof.Proof.Reference.Run
public import proofs.«01_k».proof.Proof.Values.Layout

@[expose] public section

set_option maxRecDepth 16384

noncomputable section

namespace Cert.ReferenceIdeal.Whole

open Cert.ReferenceIdeal Cert.ReferenceIdeal.Gen Idealize.ShloMosaic Idealize.ShloMosaic.ValueIdx Idealize.SL.Sem

variable (a0 : Vec Ideal S4x2048x4096 .f32) (a1 : Vec Ideal S4096x16384 .f32) (a2 : Vec Ideal S8192x4096 .fp8e4m3) (a3 : Vec Ideal S4096 .f32)

/-- The tokens as the rows of one matrix. -/
def tokens : Cert.Spec.Mat 8192 4096 := shapeCast S8192x4096 a0 shapeCasts_S4x2048x4096_S8192x4096

/-- Row `r` of the hidden activations. -/
def hidRow (r : Fin 8192) : Fin 8192 → EReal := Cert.Spec.hid (tokens a0) a1 r

/-- The reference's hidden activations. -/
theorem hidden_apply (r f : Fin 8192) : k0_pay5 (F := Ideal) a0 a1 (ix2 r f) = hidRow a0 a1 r f := by
  have hm := fun n => Cert.Spec.product_apply (truncf (F := Ideal) .bf16 (tokens a0) bitsLt_bf16_f32) (truncf (F := Ideal) .bf16 a1 bitsLt_bf16_f32) r n
  have eg := (slice2_axis1_apply 0 (matmul (F := Ideal) (DotDims.plain 8192 4096 16384) none (truncf .bf16 (tokens a0) bitsLt_bf16_f32)
    (truncf .bf16 a1 bitsLt_bf16_f32) (constant S8192x16384 .f32 0x00000000#32)) slices_S8192x16384_o0_0_S8192x8192 r f
    (Cert.Spec.gateCol f) (Nat.zero_add _).symm).trans (hm _)
  have eu := (slice2_axis1_apply 8192 (matmul (F := Ideal) (DotDims.plain 8192 4096 16384) none (truncf .bf16 (tokens a0) bitsLt_bf16_f32)
    (truncf .bf16 a1 bitsLt_bf16_f32) (constant S8192x16384 .f32 0x00000000#32)) slices_S8192x16384_o0_8192_S8192x8192 r f
    (Cert.Spec.upCol f) rfl).trans (hm _)
  exact congrArg₂ (· * ·) (congrArg₂ (· * ·) eg (congrArg Ideal.logistic eg)) eu

/-- The row's greatest magnitude, as the reference reduces it. -/
theorem greatest_apply (r : Fin 8192) :
    multiReduction (F := Ideal) .maximumf [1] S8192 (absf (k0_pay5 a0 a1)) 0xFF800000#32 reduces_S8192x8192_S8192 (.inl rfl) rfl (ix1 r)
      = Cert.Spec.rowMax (hidRow a0 a1 r) :=
  (Cert.Spec.rowMaximum_apply (absf (F := Ideal) (k0_pay5 a0 a1)) reduces_S8192x8192_S8192 (.inl rfl) rfl r).trans
    (iSup_congr fun f => congrArg Cert.Spec.mag (hidden_apply a0 a1 r f))

theorem exponent_eq : k0_pay6 (F := Ideal) a0 a1 = fun i => Cert.Spec.expo (shapeCast S8192x1
    (multiReduction (F := Ideal) .maximumf [1] S8192 (absf (k0_pay5 a0 a1)) 0xFF800000#32 reduces_S8192x8192_S8192 (.inl rfl) rfl)
    shapeCasts_S8192_S8192x1 i) := by
  unfold k0_pay6
  funext i
  exact Cert.Spec.exponent_word _ i

/-- The exponent of row `r`'s scale. -/
theorem exponent_apply (r : Fin 8192) (z : Fin 1) :
    k0_pay6 (F := Ideal) a0 a1 (ix2 r z) = Cert.Spec.expo (Cert.Spec.rowMax (hidRow a0 a1 r)) :=
  (congrFun (exponent_eq a0 a1) (ix2 r z)).trans
    (congrArg Cert.Spec.expo ((Cert.Spec.column_apply _ shapeCasts_S8192_S8192x1 r z).trans (greatest_apply a0 a1 r)))

/-- Row `r`'s scale. -/
theorem scale_apply (r : Fin 8192) (z : Fin 1) :
    k0_pay7 (F := Ideal) a0 a1 (ix2 r z) = Cert.Spec.scale (Cert.Spec.rowMax (hidRow a0 a1 r)) := by
  show Cert.Spec.twoTo (k0_pay6 (F := Ideal) a0 a1 (ix2 r z)) = _
  rw [exponent_apply]; rfl

/-- The reference's codes. -/
theorem codes_apply (r f : Fin 8192) :
    k0_pay1 (F := Ideal) (k0_pay8 a0 a1) (Scalar.ofBits .f32 0xC3E00000#32) (ix2 r f)
      = Cert.Spec.code (Cert.Spec.rowMax (hidRow a0 a1 r)) (hidRow a0 a1 r f) := by
  have hb := Cert.Spec.spread_apply (b := 8192)
    (exp2 (sitofp .f32 (subi (broadcast S8192x1 0#32) (k0_pay6 (F := Ideal) a0 a1))) : FVec Ideal S8192x1 .f32) broadcasts_S8192x1_S8192x8192 r f
  show min (Ideal.ofBits .f32 0x43E00000#32) (max (Ideal.ofBits .f32 0xC3E00000#32)
    (k0_pay5 (F := Ideal) a0 a1 (ix2 r f) * broadcastTo S8192x8192 _ broadcasts_S8192x1_S8192x8192 (ix2 r f))) = _
  rw [hb, hidden_apply]
  show min _ (max _ (_ * Cert.Spec.twoTo (IntOp.subi 0#32 (k0_pay6 (F := Ideal) a0 a1 (ix2 r 0))))) = _
  rw [exponent_apply]; rfl

/-- The result before its reshape. -/
def outMat : Vec Ideal S8192x4096 .f32 := fun i =>
  Cert.Spec.outEntry (hidRow a0 a1 (i 0)) a2 (i 1) (a3 (ix1 (i 1)))

/-- The codes before their reshape. -/
def codeMat : Vec Ideal S8192x8192 .fp8e4m3 := fun i =>
  Cert.Spec.code (Cert.Spec.rowMax (hidRow a0 a1 (i 0))) (hidRow a0 a1 (i 0) (i 1))

/-- The scales before their reshape. -/
def scaleMat : Vec Ideal S8192x1 .f32 := fun i => Cert.Spec.scale (Cert.Spec.rowMax (hidRow a0 a1 (i 0)))

theorem pay9_eq : k0_pay9 (F := Ideal) a0 a1 a2 a3 = scaleMat a0 a1 := by
  unfold k0_pay9
  rw [View.ld_unit_zero (S := S4x2048x4096) hz0, View.ld_unit_zero (S := S4096x16384) hz1]
  funext i
  rw [eq_ix2 i]
  exact scale_apply a0 a1 (i 0) (i 1)

theorem pay10_eq : k0_pay10 (F := Ideal) a0 a1 a2 a3 = k0_pay8 a0 a1 := by
  unfold k0_pay10
  rw [View.ld_unit_zero (S := S4x2048x4096) hz0, View.ld_unit_zero (S := S4096x16384) hz1]

theorem pay1_eq : k0_pay1 (F := Ideal) (k0_pay8 a0 a1) (Scalar.ofBits .f32 0xC3E00000#32) = codeMat a0 a1 := by
  funext i
  rw [eq_ix2 i]
  exact codes_apply a0 a1 (i 0) (i 1)

/-- The reference's first result: the output rows, reshaped. -/
theorem G4_eq : G4 (F := Ideal) a0 a1 a2 a3 = shapeCast S4x2048x4096 (outMat a0 a1 a2 a3) shapeCasts_S8192x4096_S4x2048x4096 := by
  show k0_pay2 (F := Ideal) (k0_pay9 a0 a1 a2 a3) (k0_pay10 a0 a1 a2 a3) _ a2 a3 = _
  rw [pay9_eq, pay10_eq]
  unfold k0_pay2
  dsimp only
  rw [pay1_eq]
  refine congrArg (fun y => shapeCast S4x2048x4096 y shapeCasts_S8192x4096_S4x2048x4096) ?_
  funext i
  rw [eq_ix2 i]
  have e1 := Cert.Spec.product_apply (φ₁ := .fp8e4m3) (φ₂ := .fp8e4m3) (codeMat a0 a1) a2 (i 0) (i 1)
  have e2 := Cert.Spec.spread_apply (b := 4096) (scaleMat a0 a1) broadcasts_S8192x1_S8192x4096 (i 0) (i 1)
  have e3 := broadcastTo_1b_ab_apply (shapeCast S1x4096 a3 shapeCasts_S4096_S1x4096) broadcasts_S1x4096_S8192x4096 (i 0) (i 1)
  have e4 := shapeCast_a_1a_apply a3 shapeCasts_S4096_S1x4096 (0 : Fin 1) (i 1)
  exact congrArg₂ (· * ·) (congrArg₂ (· * ·) e1 e2) (e3.trans e4)

/-- The reference's second result: the codes, reshaped. -/
theorem G5_eq : G5 (F := Ideal) a0 a1 a2 a3 = shapeCast S4x2048x8192 (codeMat a0 a1) shapeCasts_S8192x8192_S4x2048x8192 := by
  show k0_pay3 (F := Ideal) (k0_pay10 a0 a1 a2 a3) _ = _
  rw [pay10_eq]
  unfold k0_pay3
  dsimp only
  rw [pay1_eq]

/-- The reference's third result: the scales, reshaped. -/
theorem G6_eq : G6 (F := Ideal) a0 a1 a2 a3 = shapeCast S4x2048x1 (scaleMat a0 a1) shapeCasts_S8192x1_S4x2048x1 := by
  show k0_pay4 (F := Ideal) (k0_pay9 a0 a1 a2 a3) = _
  rw [pay9_eq]
  rfl

end Cert.ReferenceIdeal.Whole

end
-- ==== Proof.Values.Whole.lean ====
/-
  The whole kernel over the extended reals: from the launch's arguments through both calls to the three results, each
  the reference's.
-/
module

public import proofs.«01_k».proof.Proof.Ideal.Run
public import proofs.«01_k».proof.Proof.Values.Gate
public import proofs.«01_k».proof.Proof.Values.Down
public import proofs.«01_k».proof.Proof.Reference.Values
public import Idealize.ShloMosaic.Lib.StableHlo.Run

@[expose] public section

set_option maxRecDepth 16384

noncomputable section

namespace Cert.KernelIdeal.Whole

open Cert.KernelIdeal.Gen Idealize.ShloMosaic Idealize.ShloMosaic.TcCoe Idealize.ShloMosaic.ValueIdx Idealize.SL.Sem
open Idealize.ShloMosaic.StableHlo
open Cert.ReferenceIdeal.Whole (tokens hidRow outMat codeMat scaleMat)

variable (m : (ℓ : Loc nD τ sig) → Buf (Elt Ideal) ℓ) (ρ : Dev nD → PrngReg)

/-- The launch's four arguments. -/
abbrev arg0 (c : Dev nD) : Vec Ideal S4x2048x4096 .f32 := m ((c : Thread nD τ).loc main_arg0)
abbrev arg1 (c : Dev nD) : Vec Ideal S4096x16384 .f32 := m ((c : Thread nD τ).loc main_arg1)
abbrev arg2 (c : Dev nD) : Vec Ideal S8192x4096 .fp8e4m3 := m ((c : Thread nD τ).loc main_arg2)
abbrev arg3 (c : Dev nD) : Vec Ideal S4096 .f32 := m ((c : Thread nD τ).loc main_arg3)

/-! ## The first call's operands and results -/

theorem rows_eq (c : Dev nD) : rowsIn (V1 m ρ) c = tokens (arg0 m c) := by
  show StableHlo.after hostOps0 (W0 m ρ c) (Proc.devRef .tc main_v1) = _
  unfold hostOps0
  after_results
  rfl

theorem weights_eq (c : Dev nD) : weightsIn (V1 m ρ) c = arg1 m c := W1_args m ρ c main_arg1 (by decide)

theorem hid_eq (c : Dev nD) (r : Fin 8192) : hidIn (V1 m ρ) c r = hidRow (arg0 m c) (arg1 m c) r := by
  unfold hidIn
  rw [rows_eq, weights_eq]
  rfl

/-! ## The second call's operands -/

theorem acts_eq (c : Dev nD) (r f : Fin 8192) : actsIn (V3 m ρ) c (ix2 r f) = hidRow (arg0 m c) (arg1 m c) r f := by
  have e : actsIn (V3 m ρ) c = hiddenArr (V1 m ρ) c :=
    (W3_of m ρ c main_v2_0 (by decide)).trans ((W2_arr m ρ c 3).trans (hidden_final (V1 m ρ) c))
  rw [e, ← hid_eq m ρ c r]
  rfl

theorem top_eq (c : Dev nD) (r : Fin 8192) : top1 (lanesIn (V3 m ρ) c) r = Cert.Spec.rowMax (hidRow (arg0 m c) (arg1 m c) r) := by
  have e : lanesIn (V3 m ρ) c = laneArr (V1 m ρ) c :=
    (W3_of m ρ c main_v2_1 (by decide)).trans ((W2_arr m ρ c 4).trans (lane_final (V1 m ρ) c))
  rw [e, ← hid_eq m ρ c r]
  exact iSup_laneMax (V1 m ρ) c r

theorem down_eq (c : Dev nD) : downIn (V3 m ρ) c = arg2 m c := W3_args m ρ c main_arg2 (by decide)

theorem colScale_eq (c : Dev nD) (n : Fin 4096) : colScaleIn (V3 m ρ) c (ix2 (0 : Fin 1) n) = arg3 m c (ix1 n) := by
  have e : colScaleIn (V3 m ρ) c = shapeCast S1x4096 (W2 m ρ c (Proc.devRef .tc main_arg3) : Vec Ideal S4096 .f32) shapeCasts_S4096_S1x4096 := by
    show StableHlo.after hostOps1 (W2 m ρ c) (Proc.devRef .tc main_v3) = _
    unfold hostOps1
    after_results
    rfl
  rw [e, show W2 m ρ c (Proc.devRef .tc main_arg3) = m ((c : Thread nD τ).loc main_arg3) from W2_args m ρ c main_arg3 (by decide)]
  exact shapeCast_a_1a_apply (arg3 m c) shapeCasts_S4096_S1x4096 0 n

/-! ## The second call's results -/

theorem outIn_eq (c : Dev nD) (r : Fin 8192) (n : Fin 4096) : outIn (V3 m ρ) c r n
    = Cert.Spec.outEntry (hidRow (arg0 m c) (arg1 m c) r) (arg2 m c) n (arg3 m c (ix1 n)) := by
  unfold outIn Cert.Spec.outEntry
  rw [top_eq, down_eq, colScale_eq]
  exact congrArg (fun y => y * Cert.Spec.scale (Cert.Spec.rowMax (hidRow (arg0 m c) (arg1 m c) r)) * arg3 m c (ix1 n))
    (Finset.sum_congr rfl fun f _ => congrArg (fun h => Cert.Spec.code (Cert.Spec.rowMax (hidRow (arg0 m c) (arg1 m c) r)) h
      * arg2 m c (ix2 f n)) (acts_eq m ρ c r f))

theorem out_eq (c : Dev nD) : outArr (V3 m ρ) c = outMat (arg0 m c) (arg1 m c) (arg2 m c) (arg3 m c) := by
  funext i
  exact outIn_eq m ρ c (i 0) (i 1)

theorem code_eq (c : Dev nD) : codeArr (V3 m ρ) c = codeMat (arg0 m c) (arg1 m c) := by
  funext i
  exact congrArg₂ Cert.Spec.code (top_eq m ρ c (i 0)) (acts_eq m ρ c (i 0) (i 1))

theorem scale_eq (c : Dev nD) : scaleArr (V3 m ρ) c = scaleMat (arg0 m c) (arg1 m c) := by
  funext i
  exact congrArg Cert.Spec.scale (top_eq m ρ c (i 0))

/-! ## The results -/

/-- The first result: the output rows, reshaped. -/
theorem result0 (c : Dev nD) : W5 m ρ c (Proc.devRef .tc main_v5)
    = shapeCast S4x2048x4096 (outMat (arg0 m c) (arg1 m c) (arg2 m c) (arg3 m c)) shapeCasts_S8192x4096_S4x2048x4096 := by
  have e : W5 m ρ c (Proc.devRef .tc main_v5) = shapeCast S4x2048x4096 (W4 m ρ c (Proc.devRef .tc main_v4_0) : Vec Ideal S8192x4096 .f32)
      shapeCasts_S8192x4096_S4x2048x4096 := by
    show StableHlo.after hostOps2 (W4 m ρ c) (Proc.devRef .tc main_v5) = _
    unfold hostOps2
    after_results
    rfl
  rw [e, show W4 m ρ c (Proc.devRef .tc main_v4_0) = outArr (V3 m ρ) c from (W4_arr m ρ c 4).trans (out_final (V3 m ρ) c), out_eq]

/-- The second result: the codes, reshaped. -/
theorem result1 (c : Dev nD) : W5 m ρ c (Proc.devRef .tc main_v6)
    = shapeCast S4x2048x8192 (codeMat (arg0 m c) (arg1 m c)) shapeCasts_S8192x8192_S4x2048x8192 := by
  have e : W5 m ρ c (Proc.devRef .tc main_v6) = shapeCast S4x2048x8192 (W4 m ρ c (Proc.devRef .tc main_v4_1) : Vec Ideal S8192x8192 .fp8e4m3)
      shapeCasts_S8192x8192_S4x2048x8192 := by
    show StableHlo.after hostOps2 (W4 m ρ c) (Proc.devRef .tc main_v6) = _
    unfold hostOps2
    after_results
    rfl
  rw [e, show W4 m ρ c (Proc.devRef .tc main_v4_1) = codeArr (V3 m ρ) c from (W4_arr m ρ c 5).trans (code_final (V3 m ρ) c), code_eq]

/-- The third result: the scales, reshaped. -/
theorem result2 (c : Dev nD) : W5 m ρ c (Proc.devRef .tc main_v7)
    = shapeCast S4x2048x1 (scaleMat (arg0 m c) (arg1 m c)) shapeCasts_S8192x1_S4x2048x1 := by
  have e : W5 m ρ c (Proc.devRef .tc main_v7) = shapeCast S4x2048x1 (W4 m ρ c (Proc.devRef .tc main_v4_2) : Vec Ideal S8192x1 .f32)
      shapeCasts_S8192x1_S4x2048x1 := by
    show StableHlo.after hostOps2 (W4 m ρ c) (Proc.devRef .tc main_v7) = _
    unfold hostOps2
    after_results
    rfl
  rw [e, show W4 m ρ c (Proc.devRef .tc main_v4_2) = scaleArr (V3 m ρ) c from (W4_arr m ρ c 6).trans (scale_final (V3 m ρ) c), scale_eq]

/-- The kernel ends with the three results above, and its arguments unchanged. -/
theorem run_values : θ_run defs (onTc (τ := τ) (main (F := Ideal))) ⟨m, fun _ => 0, ρ⟩ (fun r => ∀ c : Dev nD,
      r.2.mem ((c : Thread nD τ).loc main_v5) = shapeCast S4x2048x4096 (outMat (arg0 m c) (arg1 m c) (arg2 m c) (arg3 m c)) shapeCasts_S8192x4096_S4x2048x4096
      ∧ r.2.mem ((c : Thread nD τ).loc main_v6) = shapeCast S4x2048x8192 (codeMat (arg0 m c) (arg1 m c)) shapeCasts_S8192x8192_S4x2048x8192
      ∧ r.2.mem ((c : Thread nD τ).loc main_v7) = shapeCast S4x2048x1 (scaleMat (arg0 m c) (arg1 m c)) shapeCasts_S8192x1_S4x2048x1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨(h.1 c _ (mem_uc main_v5 (by decide))).trans (result0 m ρ c),
     (h.1 c _ (mem_uc main_v6 (by decide))).trans (result1 m ρ c),
     (h.1 c _ (mem_uc main_v7 (by decide))).trans (result2 m ρ c),
     (h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c)⟩) (run m ρ)

end Cert.KernelIdeal.Whole

end
-- ==== Proof.lean ====
/-
  The certificate's five claims, assembled: the frames of the kernel, of its ideal program and of the reference; that the
  ideal program is the kernel over the extended reals; and that kernel and reference compute the same three results there.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Ideal.Run
public import proofs.«01_k».proof.Proof.Bits.Run
public import proofs.«01_k».proof.Proof.Values.Whole
public import Idealize.ShloMosaic.Adequacy
public import Idealize.ShloMosaic.Init

@[expose] public section

noncomputable section

namespace Cert.Proof

open Idealize.ShloMosaic Idealize.SL.Sem Cert.Kernel

/-- The kernel and the reference compute the same three results over the extended reals. -/
theorem algebraic : @Cert.algebraic_KernelIdeal_ReferenceIdeal Cert.KernelIdeal.Gen.facts Cert.ReferenceIdeal.Gen.facts := by
  intro m g m' g' _ hargs
  refine ⟨_, _, _, Cert.KernelIdeal.Whole.run_values m g, ?_⟩
  refine (θ_run _ _ _).mono (fun r h c => ?_) (Cert.ReferenceIdeal.Whole.run m' g')
  obtain ⟨h0, h1, h2, k⟩ := h c
  obtain ⟨e0, e1, e2, e3⟩ := hargs c
  refine ⟨h0.trans ?_, h1.trans ?_, h2.trans ?_, k⟩
  · rw [e0, e1, e2, e3]; exact Cert.ReferenceIdeal.Whole.G4_eq _ _ _ _
  · rw [e0, e1, e2, e3]; exact Cert.ReferenceIdeal.Whole.G5_eq _ _ _ _
  · rw [e0, e1, e2, e3]; exact Cert.ReferenceIdeal.Whole.G6_eq _ _ _ _

/-- All five claims. -/
theorem claim : Cert.Claim := ⟨Cert.Kernel.Gen.facts, Cert.KernelIdeal.Gen.facts, Cert.ReferenceIdeal.Gen.facts,
  fun m g _ => Cert.Kernel.Whole.frame m g,
  fun m g _ => Cert.KernelIdeal.Whole.frame m g,
  fun m g _ => Cert.ReferenceIdeal.Gen.frame m g, trivial, algebraic⟩

end Cert.Proof

end
